-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S8x128
  ∧ IdealRules.bf16_pair.Statement Cert.KernelIdeal.S2x1024 Cert.KernelIdeal.S1x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v745) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024 : Shape := ⟨2, ![2, 1024]⟩
abbrev S8x16x128 : Shape := ⟨3, ![8, 16, 128]⟩
abbrev S2000000x4 : Shape := ⟨2, ![2000000, 4]⟩
abbrev S4x2000000 : Shape := ⟨2, ![4, 2000000]⟩
abbrev S2x2000000 : Shape := ⟨2, ![2, 2000000]⟩
abbrev S2x8x16 : Shape := ⟨3, ![2, 8, 16]⟩
abbrev S4x65536 : Shape := ⟨2, ![4, 65536]⟩
abbrev S2x65536 : Shape := ⟨2, ![2, 65536]⟩
abbrev S2x8x16x128 : Shape := ⟨4, ![2, 8, 16, 128]⟩
abbrev S16x128 : Shape := ⟨2, ![16, 128]⟩
abbrev S1x128 : Shape := ⟨2, ![1, 128]⟩
abbrev S1x16x128 : Shape := ⟨3, ![1, 16, 128]⟩
abbrev S16 : Shape := ⟨1, ![16]⟩
abbrev S16x1 : Shape := ⟨2, ![16, 1]⟩
abbrev S1x1x16x128 : Shape := ⟨4, ![1, 1, 16, 128]⟩
abbrev S128 : Shape := ⟨1, ![128]⟩
abbrev S1x16 : Shape := ⟨2, ![1, 16]⟩
abbrev S1x1x16 : Shape := ⟨3, ![1, 1, 16]⟩
abbrev S4x1024 : Shape := ⟨2, ![4, 1024]⟩
abbrev S1x1024 : Shape := ⟨2, ![1, 1024]⟩
abbrev S8x128 : Shape := ⟨2, ![8, 128]⟩
abbrev S1x1x8x128 : Shape := ⟨4, ![1, 1, 8, 128]⟩
abbrev S8x128x1 : Shape := ⟨3, ![8, 128, 1]⟩
abbrev S1x65536 : Shape := ⟨2, ![1, 65536]⟩

abbrev nBuf : Space → Nat
  | .hbm => 6
  | .vmem => 8
  | .smem => 0
  | _ => 0

abbrev bufTy : (tb : Table) → Fin (tcTables nBuf tb) → BufTy
  | .hbm, ⟨0, _⟩ => ⟨S2x1024, .bf16⟩
  | .hbm, ⟨1, _⟩ => ⟨S8x16x128, .f32⟩
  | .hbm, ⟨2, _⟩ => ⟨S2000000x4, .i8⟩
  | .hbm, ⟨3, _⟩ => ⟨S4x2000000, .i8⟩
  | .hbm, ⟨4, _⟩ => ⟨S2x2000000, .bf16⟩
  | .hbm, ⟨5, _⟩ => ⟨S2x8x16, .f32⟩
  | .local _ .vmem, ⟨0, _⟩ => ⟨S2x1024, .bf16⟩
  | .local _ .vmem, ⟨1, _⟩ => ⟨S8x16x128, .f32⟩
  | .local _ .vmem, ⟨2, _⟩ => ⟨S4x65536, .i8⟩
  | .local _ .vmem, ⟨3, _⟩ => ⟨S4x65536, .i8⟩
  | .local _ .vmem, ⟨4, _⟩ => ⟨S2x65536, .bf16⟩
  | .local _ .vmem, ⟨5, _⟩ => ⟨S2x65536, .bf16⟩
  | .local _ .vmem, ⟨6, _⟩ => ⟨S2x8x16, .f32⟩
  | .local _ .vmem, ⟨7, _⟩ => ⟨S2x8x16x128, .f32⟩
  | _, _ => ⟨S2x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [BitOps F]

abbrev grid0 : Pipeline.Grid := ⟨1, ![31], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c0_i32_3 : BitVec 32 := 0#32
  let v5 : BitVec 32 := Scalar.addi v4 c0_i32_3
  let c128_i32 : BitVec 32 := 128#32
  let v6 : BitVec 32 := Scalar.muli v5 c128_i32
  v6
def k0_off1 (k0_t1 : Fin k0_t1_loop.trips) (c0_i32_3 : BitVec 32) : Fin 2 → Nat :=
  let c0 : Index := 0#32
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let v5 : BitVec 32 := Scalar.addi v4 c0_i32_3
  let c128_i32 : BitVec 32 := 128#32
  let v6 : BitVec 32 := Scalar.muli v5 c128_i32
  let v7 : BitVec 32 := v6
  let v8 : Index := Scalar.indexCast v7
  ![0, v8.toNat]
def k0_mult2 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c8_i32 : BitVec 32 := 8#32
  let v13 : BitVec 32 := Scalar.addi v4 c8_i32
  let c128_i32_4 : BitVec 32 := 128#32
  let v14 : BitVec 32 := Scalar.muli v13 c128_i32_4
  v14
def k0_mult3 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c16_i32_6 : BitVec 32 := 16#32
  let v21 : BitVec 32 := Scalar.addi v4 c16_i32_6
  let c128_i32_7 : BitVec 32 := 128#32
  let v22 : BitVec 32 := Scalar.muli v21 c128_i32_7
  v22
def k0_mult4 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c24_i32 : BitVec 32 := 24#32
  let v29 : BitVec 32 := Scalar.addi v4 c24_i32
  let c128_i32_9 : BitVec 32 := 128#32
  let v30 : BitVec 32 := Scalar.muli v29 c128_i32_9
  v30
def k0_mult5 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c0_i32_254 : BitVec 32 := 0#32
  let v855 : BitVec 32 := Scalar.addi v4 c0_i32_254
  let c128_i32_255 : BitVec 32 := 128#32
  let v856 : BitVec 32 := Scalar.muli v855 c128_i32_255
  v856
def k0_off2 (k0_t1 : Fin k0_t1_loop.trips) (c0_i32_254 : BitVec 32) : Fin 2 → Nat :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let v855 : BitVec 32 := Scalar.addi v4 c0_i32_254
  let c128_i32_255 : BitVec 32 := 128#32
  let v856 : BitVec 32 := Scalar.muli v855 c128_i32_255
  let v857 : BitVec 32 := v856
  let v861 : Index := Scalar.indexCast v857
  ![0, v861.toNat]
def k0_mult6 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c8_i32_257 : BitVec 32 := 8#32
  let v865 : BitVec 32 := Scalar.addi v4 c8_i32_257
  let c128_i32_258 : BitVec 32 := 128#32
  let v866 : BitVec 32 := Scalar.muli v865 c128_i32_258
  v866
def k0_mult7 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c16_i32_260 : BitVec 32 := 16#32
  let v875 : BitVec 32 := Scalar.addi v4 c16_i32_260
  let c128_i32_261 : BitVec 32 := 128#32
  let v876 : BitVec 32 := Scalar.muli v875 c128_i32_261
  v876
def k0_mult8 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v4 : BitVec 32 := Scalar.muli arg7 c32_i32
  let c24_i32_263 : BitVec 32 := 24#32
  let v885 : BitVec 32 := Scalar.addi v4 c24_i32_263
  let c128_i32_264 : BitVec 32 := 128#32
  let v886 : BitVec 32 := Scalar.muli v885 c128_i32_264
  v886
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x65536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x65536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F]
-- ==== ReferenceIdeal.lean ====
abbrev S2x1024 : Shape := ⟨2, ![2, 1024]⟩
abbrev S8x16x128 : Shape := ⟨3, ![8, 16, 128]⟩
abbrev S2000000x4 : Shape := ⟨2, ![2000000, 4]⟩
abbrev S2x8x128 : Shape := ⟨3, ![2, 8, 128]⟩
abbrev S2x8x1x128 : Shape := ⟨4, ![2, 8, 1, 128]⟩
abbrev S1x8x16x128 : Shape := ⟨4, ![1, 8, 16, 128]⟩
abbrev S2x8x16x128 : Shape := ⟨4, ![2, 8, 16, 128]⟩
abbrev S_ : Shape := ⟨0, ![]⟩
abbrev S2x8x16 : Shape := ⟨3, ![2, 8, 16]⟩
abbrev S2000000 : Shape := ⟨1, ![2000000]⟩
abbrev S2x1x1 : Shape := ⟨3, ![2, 1, 1]⟩
abbrev S2 : Shape := ⟨1, ![2]⟩
abbrev S2x1 : Shape := ⟨2, ![2, 1]⟩
abbrev S1x2000000 : Shape := ⟨2, ![1, 2000000]⟩
abbrev S2x2000000 : Shape := ⟨2, ![2, 2000000]⟩

abbrev nBuf : Space → Nat
  | .hbm => 1094
  | .vmem => 0
  | .smem => 0
  | _ => 0

abbrev hbmTy0_0 (i : Nat) : BufTy := match i % 128 with
  | 0 => ⟨S2x1024, .bf16⟩
  | 1 => ⟨S8x16x128, .f32⟩
  | 2 => ⟨S2000000x4, .i8⟩
  | 3 => ⟨S2x1024, .f32⟩
  | 4 => ⟨S2x8x128, .f32⟩
  | 5 => ⟨S2x8x1x128, .f32⟩
  | 6 => ⟨S1x8x16x128, .f32⟩
  | 7 => ⟨S2x8x16x128, .f32⟩
  | 8 => ⟨S2x8x16x128, .f32⟩
  | 9 => ⟨S2x8x16x128, .f32⟩
  | 10 => ⟨S2x8x16x128, .f32⟩
  | 11 => ⟨S_, .f32⟩
  | 12 => ⟨S2x8x16, .f32⟩
  | 13 => ⟨S2000000, .i32⟩
  | 14 => ⟨S2x1x1, .f32⟩
  | 15 => ⟨S2, .f32⟩
  | 16 => ⟨S2x1, .f32⟩
  | 17 => ⟨S2x1x1, .f32⟩
  | 18 => ⟨S2, .f32⟩
  | 19 => ⟨S2x1, .f32⟩
  | 20 => ⟨S2x1x1, .f32⟩
  | 21 => ⟨S2, .f32⟩
  | 22 => ⟨S2x1, .f32⟩
  | 23 => ⟨S2x1x1, .f32⟩
  | 24 => ⟨S2, .f32⟩
  | 25 => ⟨S2x1, .f32⟩
  | 26 => ⟨S2x1x1, .f32⟩
  | 27 => ⟨S2, .f32⟩
  | 28 => ⟨S2x1, .f32⟩
  | 29 => ⟨S2x1x1, .f32⟩
  | 30 => ⟨S2, .f32⟩
  | 31 => ⟨S2x1, .f32⟩
  | 32 => ⟨S2x1x1, .f32⟩
  | 33 => ⟨S2, .f32⟩
  | 34 => ⟨S2x1, .f32⟩
  | 35 => ⟨S2x1x1, .f32⟩
  | 36 => ⟨S2, .f32⟩
  | 37 => ⟨S2x1, .f32⟩
  | 38 => ⟨S2x1x1, .f32⟩
  | 39 => ⟨S2, .f32⟩
  | 40 => ⟨S2x1, .f32⟩
  | 41 => ⟨S2x1x1, .f32⟩
  | 42 => ⟨S2, .f32⟩
  | 43 => ⟨S2x1, .f32⟩
  | 44 => ⟨S2x1x1, .f32⟩
  | 45 => ⟨S2, .f32⟩
  | 46 => ⟨S2x1, .f32⟩
  | 47 => ⟨S2x1x1, .f32⟩
  | 48 => ⟨S2, .f32⟩
  | 49 => ⟨S2x1, .f32⟩
  | 50 => ⟨S2x1x1, .f32⟩
  | 51 => ⟨S2, .f32⟩
  | 52 => ⟨S2x1, .f32⟩
  | 53 => ⟨S2x1x1, .f32⟩
  | 54 => ⟨S2, .f32⟩
  | 55 => ⟨S2x1, .f32⟩
  | 56 => ⟨S2x1x1, .f32⟩
  | 57 => ⟨S2, .f32⟩
  | 58 => ⟨S2x1, .f32⟩
  | 59 => ⟨S2x1x1, .f32⟩
  | 60 => ⟨S2, .f32⟩
  | 61 => ⟨S2x1, .f32⟩
  | 62 => ⟨S_, .i32⟩
  | 63 => ⟨S2000000, .i32⟩
  | 64 => ⟨S2000000, .i32⟩
  | 65 => ⟨S_, .i32⟩
  | 66 => ⟨S2000000, .i32⟩
  | 67 => ⟨S2000000, .i32⟩
  | 68 => ⟨S_, .i32⟩
  | 69 => ⟨S2000000, .i32⟩
  | 70 => ⟨S2000000, .i1⟩
  | 71 => ⟨S1x2000000, .i1⟩
  | 72 => ⟨S2x2000000, .i1⟩
  | 73 => ⟨S2x2000000, .f32⟩
  | 74 => ⟨S2x2000000, .f32⟩
  | 75 => ⟨S2x2000000, .f32⟩
  | 76 => ⟨S2x2000000, .i1⟩
  | 77 => ⟨S2x2000000, .f32⟩
  | 78 => ⟨S2x2000000, .f32⟩
  | 79 => ⟨S2x2000000, .f32⟩
  | 80 => ⟨S2x2000000, .i1⟩
  | 81 => ⟨S2x2000000, .f32⟩
  | 82 => ⟨S2x2000000, .f32⟩
  | 83 => ⟨S2x2000000, .f32⟩
  | 84 => ⟨S2x2000000, .i1⟩
  | 85 => ⟨S2x2000000, .f32⟩
  | 86 => ⟨S2x2000000, .f32⟩
  | 87 => ⟨S2x2000000, .f32⟩
  | 88 => ⟨S2x2000000, .i1⟩
  | 89 => ⟨S2x2000000, .f32⟩
  | 90 => ⟨S2x2000000, .f32⟩
  | 91 => ⟨S2x2000000, .f32⟩
  | 92 => ⟨S2x2000000, .i1⟩
  | 93 => ⟨S2x2000000, .f32⟩
  | 94 => ⟨S2x2000000, .f32⟩
  | 95 => ⟨S2x2000000, .f32⟩
  | 96 => ⟨S2x2000000, .i1⟩
  | 97 => ⟨S2x2000000, .f32⟩
  | 98 => ⟨S2x2000000, .f32⟩
  | 99 => ⟨S2x2000000, .f32⟩
  | 100 => ⟨S2x2000000, .i1⟩
  | 101 => ⟨S2x2000000, .f32⟩
  | 102 => ⟨S2x2000000, .f32⟩
  | 103 => ⟨S2x2000000, .f32⟩
  | 104 => ⟨S_, .i32⟩
  | 105 => ⟨S2000000, .i32⟩
  | 106 => ⟨S2000000, .i32⟩
  | 107 => ⟨S_, .i32⟩
  | 108 => ⟨S2000000, .i32⟩
  | 109 => ⟨S2000000, .i32⟩
  | 110 => ⟨S_, .i32⟩
  | 111 => ⟨S2000000, .i32⟩
  | 112 => ⟨S2000000, .i1⟩
  | 113 => ⟨S1x2000000, .i1⟩
  | 114 => ⟨S2x2000000, .i1⟩
  | 115 => ⟨S2x2000000, .f32⟩
  | 116 => ⟨S2x2000000, .i1⟩
  | 117 => ⟨S2x2000000, .f32⟩
  | 118 => ⟨S2x2000000, .i1⟩
  | 119 => ⟨S2x2000000, .f32⟩
  | 120 => ⟨S2x2000000, .i1⟩
  | 121 => ⟨S2x2000000, .f32⟩
  | 122 => ⟨S_, .i32⟩
  | 123 => ⟨S2000000, .i32⟩
  | 124 => ⟨S2000000, .i32⟩
  | 125 => ⟨S_, .i32⟩
  | 126 => ⟨S2000000, .i32⟩
  | 127 => ⟨S2000000, .i32⟩
  | _ => ⟨S2x1024, .bf16⟩

abbrev hbmTy0_1 (i : Nat) : BufTy := match i % 128 with
  | 0 => ⟨S_, .i32⟩
  | 1 => ⟨S2000000, .i32⟩
  | 2 => ⟨S2000000, .i1⟩
  | 3 => ⟨S1x2000000, .i1⟩
  | 4 => ⟨S2x2000000, .i1⟩
  | 5 => ⟨S2x2000000, .f32⟩
  | 6 => ⟨S2x2000000, .i1⟩
  | 7 => ⟨S2x2000000, .f32⟩
  | 8 => ⟨S_, .i32⟩
  | 9 => ⟨S2000000, .i32⟩
  | 10 => ⟨S2000000, .i32⟩
  | 11 => ⟨S_, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S1x2000000, .i1⟩
  | 18 => ⟨S2x2000000, .i1⟩
  | 19 => ⟨S2x2000000, .f32⟩
  | 20 => ⟨S2x1x1, .f32⟩
  | 21 => ⟨S2, .f32⟩
  | 22 => ⟨S2x1, .f32⟩
  | 23 => ⟨S2x1x1, .f32⟩
  | 24 => ⟨S2, .f32⟩
  | 25 => ⟨S2x1, .f32⟩
  | 26 => ⟨S2x1x1, .f32⟩
  | 27 => ⟨S2, .f32⟩
  | 28 => ⟨S2x1, .f32⟩
  | 29 => ⟨S2x1x1, .f32⟩
  | 30 => ⟨S2, .f32⟩
  | 31 => ⟨S2x1, .f32⟩
  | 32 => ⟨S2x1x1, .f32⟩
  | 33 => ⟨S2, .f32⟩
  | 34 => ⟨S2x1, .f32⟩
  | 35 => ⟨S2x1x1, .f32⟩
  | 36 => ⟨S2, .f32⟩
  | 37 => ⟨S2x1, .f32⟩
  | 38 => ⟨S2x1x1, .f32⟩
  | 39 => ⟨S2, .f32⟩
  | 40 => ⟨S2x1, .f32⟩
  | 41 => ⟨S2x1x1, .f32⟩
  | 42 => ⟨S2, .f32⟩
  | 43 => ⟨S2x1, .f32⟩
  | 44 => ⟨S2x1x1, .f32⟩
  | 45 => ⟨S2, .f32⟩
  | 46 => ⟨S2x1, .f32⟩
  | 47 => ⟨S2x1x1, .f32⟩
  | 48 => ⟨S2, .f32⟩
  | 49 => ⟨S2x1, .f32⟩
  | 50 => ⟨S2x1x1, .f32⟩
  | 51 => ⟨S2, .f32⟩
  | 52 => ⟨S2x1, .f32⟩
  | 53 => ⟨S2x1x1, .f32⟩
  | 54 => ⟨S2, .f32⟩
  | 55 => ⟨S2x1, .f32⟩
  | 56 => ⟨S2x1x1, .f32⟩
  | 57 => ⟨S2, .f32⟩
  | 58 => ⟨S2x1, .f32⟩
  | 59 => ⟨S2x1x1, .f32⟩
  | 60 => ⟨S2, .f32⟩
  | 61 => ⟨S2x1, .f32⟩
  | 62 => ⟨S2x1x1, .f32⟩
  | 63 => ⟨S2, .f32⟩
  | 64 => ⟨S2x1, .f32⟩
  | 65 => ⟨S2x1x1, .f32⟩
  | 66 => ⟨S2, .f32⟩
  | 67 => ⟨S2x1, .f32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S_, .i32⟩
  | 75 => ⟨S2000000, .i32⟩
  | 76 => ⟨S2000000, .i1⟩
  | 77 => ⟨S1x2000000, .i1⟩
  | 78 => ⟨S2x2000000, .i1⟩
  | 79 => ⟨S2x2000000, .f32⟩
  | 80 => ⟨S2x2000000, .f32⟩
  | 81 => ⟨S2x2000000, .f32⟩
  | 82 => ⟨S2x2000000, .i1⟩
  | 83 => ⟨S2x2000000, .f32⟩
  | 84 => ⟨S2x2000000, .f32⟩
  | 85 => ⟨S2x2000000, .f32⟩
  | 86 => ⟨S2x2000000, .i1⟩
  | 87 => ⟨S2x2000000, .f32⟩
  | 88 => ⟨S2x2000000, .f32⟩
  | 89 => ⟨S2x2000000, .f32⟩
  | 90 => ⟨S2x2000000, .i1⟩
  | 91 => ⟨S2x2000000, .f32⟩
  | 92 => ⟨S2x2000000, .f32⟩
  | 93 => ⟨S2x2000000, .f32⟩
  | 94 => ⟨S2x2000000, .i1⟩
  | 95 => ⟨S2x2000000, .f32⟩
  | 96 => ⟨S2x2000000, .f32⟩
  | 97 => ⟨S2x2000000, .f32⟩
  | 98 => ⟨S2x2000000, .i1⟩
  | 99 => ⟨S2x2000000, .f32⟩
  | 100 => ⟨S2x2000000, .f32⟩
  | 101 => ⟨S2x2000000, .f32⟩
  | 102 => ⟨S2x2000000, .i1⟩
  | 103 => ⟨S2x2000000, .f32⟩
  | 104 => ⟨S2x2000000, .f32⟩
  | 105 => ⟨S2x2000000, .f32⟩
  | 106 => ⟨S2x2000000, .i1⟩
  | 107 => ⟨S2x2000000, .f32⟩
  | 108 => ⟨S2x2000000, .f32⟩
  | 109 => ⟨S2x2000000, .f32⟩
  | 110 => ⟨S_, .i32⟩
  | 111 => ⟨S2000000, .i32⟩
  | 112 => ⟨S2000000, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i1⟩
  | 119 => ⟨S1x2000000, .i1⟩
  | 120 => ⟨S2x2000000, .i1⟩
  | 121 => ⟨S2x2000000, .f32⟩
  | 122 => ⟨S2x2000000, .i1⟩
  | 123 => ⟨S2x2000000, .f32⟩
  | 124 => ⟨S2x2000000, .i1⟩
  | 125 => ⟨S2x2000000, .f32⟩
  | 126 => ⟨S2x2000000, .i1⟩
  | 127 => ⟨S2x2000000, .f32⟩
  | _ => ⟨S2x1024, .bf16⟩

abbrev hbmTy0_2 (i : Nat) : BufTy := match i % 128 with
  | 0 => ⟨S_, .i32⟩
  | 1 => ⟨S2000000, .i32⟩
  | 2 => ⟨S2000000, .i32⟩
  | 3 => ⟨S_, .i32⟩
  | 4 => ⟨S2000000, .i32⟩
  | 5 => ⟨S2000000, .i32⟩
  | 6 => ⟨S_, .i32⟩
  | 7 => ⟨S2000000, .i32⟩
  | 8 => ⟨S2000000, .i1⟩
  | 9 => ⟨S1x2000000, .i1⟩
  | 10 => ⟨S2x2000000, .i1⟩
  | 11 => ⟨S2x2000000, .f32⟩
  | 12 => ⟨S2x2000000, .i1⟩
  | 13 => ⟨S2x2000000, .f32⟩
  | 14 => ⟨S_, .i32⟩
  | 15 => ⟨S2000000, .i32⟩
  | 16 => ⟨S2000000, .i32⟩
  | 17 => ⟨S_, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S1x2000000, .i1⟩
  | 24 => ⟨S2x2000000, .i1⟩
  | 25 => ⟨S2x2000000, .f32⟩
  | 26 => ⟨S2x2000000, .f32⟩
  | 27 => ⟨S2x1x1, .f32⟩
  | 28 => ⟨S2, .f32⟩
  | 29 => ⟨S2x1, .f32⟩
  | 30 => ⟨S2x1x1, .f32⟩
  | 31 => ⟨S2, .f32⟩
  | 32 => ⟨S2x1, .f32⟩
  | 33 => ⟨S2x1x1, .f32⟩
  | 34 => ⟨S2, .f32⟩
  | 35 => ⟨S2x1, .f32⟩
  | 36 => ⟨S2x1x1, .f32⟩
  | 37 => ⟨S2, .f32⟩
  | 38 => ⟨S2x1, .f32⟩
  | 39 => ⟨S2x1x1, .f32⟩
  | 40 => ⟨S2, .f32⟩
  | 41 => ⟨S2x1, .f32⟩
  | 42 => ⟨S2x1x1, .f32⟩
  | 43 => ⟨S2, .f32⟩
  | 44 => ⟨S2x1, .f32⟩
  | 45 => ⟨S2x1x1, .f32⟩
  | 46 => ⟨S2, .f32⟩
  | 47 => ⟨S2x1, .f32⟩
  | 48 => ⟨S2x1x1, .f32⟩
  | 49 => ⟨S2, .f32⟩
  | 50 => ⟨S2x1, .f32⟩
  | 51 => ⟨S2x1x1, .f32⟩
  | 52 => ⟨S2, .f32⟩
  | 53 => ⟨S2x1, .f32⟩
  | 54 => ⟨S2x1x1, .f32⟩
  | 55 => ⟨S2, .f32⟩
  | 56 => ⟨S2x1, .f32⟩
  | 57 => ⟨S2x1x1, .f32⟩
  | 58 => ⟨S2, .f32⟩
  | 59 => ⟨S2x1, .f32⟩
  | 60 => ⟨S2x1x1, .f32⟩
  | 61 => ⟨S2, .f32⟩
  | 62 => ⟨S2x1, .f32⟩
  | 63 => ⟨S2x1x1, .f32⟩
  | 64 => ⟨S2, .f32⟩
  | 65 => ⟨S2x1, .f32⟩
  | 66 => ⟨S2x1x1, .f32⟩
  | 67 => ⟨S2, .f32⟩
  | 68 => ⟨S2x1, .f32⟩
  | 69 => ⟨S2x1x1, .f32⟩
  | 70 => ⟨S2, .f32⟩
  | 71 => ⟨S2x1, .f32⟩
  | 72 => ⟨S2x1x1, .f32⟩
  | 73 => ⟨S2, .f32⟩
  | 74 => ⟨S2x1, .f32⟩
  | 75 => ⟨S_, .i32⟩
  | 76 => ⟨S2000000, .i32⟩
  | 77 => ⟨S2000000, .i32⟩
  | 78 => ⟨S_, .i32⟩
  | 79 => ⟨S2000000, .i32⟩
  | 80 => ⟨S2000000, .i32⟩
  | 81 => ⟨S_, .i32⟩
  | 82 => ⟨S2000000, .i32⟩
  | 83 => ⟨S2000000, .i1⟩
  | 84 => ⟨S1x2000000, .i1⟩
  | 85 => ⟨S2x2000000, .i1⟩
  | 86 => ⟨S2x2000000, .f32⟩
  | 87 => ⟨S2x2000000, .f32⟩
  | 88 => ⟨S2x2000000, .f32⟩
  | 89 => ⟨S2x2000000, .i1⟩
  | 90 => ⟨S2x2000000, .f32⟩
  | 91 => ⟨S2x2000000, .f32⟩
  | 92 => ⟨S2x2000000, .f32⟩
  | 93 => ⟨S2x2000000, .i1⟩
  | 94 => ⟨S2x2000000, .f32⟩
  | 95 => ⟨S2x2000000, .f32⟩
  | 96 => ⟨S2x2000000, .f32⟩
  | 97 => ⟨S2x2000000, .i1⟩
  | 98 => ⟨S2x2000000, .f32⟩
  | 99 => ⟨S2x2000000, .f32⟩
  | 100 => ⟨S2x2000000, .f32⟩
  | 101 => ⟨S2x2000000, .i1⟩
  | 102 => ⟨S2x2000000, .f32⟩
  | 103 => ⟨S2x2000000, .f32⟩
  | 104 => ⟨S2x2000000, .f32⟩
  | 105 => ⟨S2x2000000, .i1⟩
  | 106 => ⟨S2x2000000, .f32⟩
  | 107 => ⟨S2x2000000, .f32⟩
  | 108 => ⟨S2x2000000, .f32⟩
  | 109 => ⟨S2x2000000, .i1⟩
  | 110 => ⟨S2x2000000, .f32⟩
  | 111 => ⟨S2x2000000, .f32⟩
  | 112 => ⟨S2x2000000, .f32⟩
  | 113 => ⟨S2x2000000, .i1⟩
  | 114 => ⟨S2x2000000, .f32⟩
  | 115 => ⟨S2x2000000, .f32⟩
  | 116 => ⟨S2x2000000, .f32⟩
  | 117 => ⟨S_, .i32⟩
  | 118 => ⟨S2000000, .i32⟩
  | 119 => ⟨S2000000, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S1x2000000, .i1⟩
  | 127 => ⟨S2x2000000, .i1⟩
  | _ => ⟨S2x1024, .bf16⟩

abbrev hbmTy0_3 (i : Nat) : BufTy := match i % 128 with
  | 0 => ⟨S2x2000000, .f32⟩
  | 1 => ⟨S2x2000000, .i1⟩
  | 2 => ⟨S2x2000000, .f32⟩
  | 3 => ⟨S2x2000000, .i1⟩
  | 4 => ⟨S2x2000000, .f32⟩
  | 5 => ⟨S2x2000000, .i1⟩
  | 6 => ⟨S2x2000000, .f32⟩
  | 7 => ⟨S_, .i32⟩
  | 8 => ⟨S2000000, .i32⟩
  | 9 => ⟨S2000000, .i32⟩
  | 10 => ⟨S_, .i32⟩
  | 11 => ⟨S2000000, .i32⟩
  | 12 => ⟨S2000000, .i32⟩
  | 13 => ⟨S_, .i32⟩
  | 14 => ⟨S2000000, .i32⟩
  | 15 => ⟨S2000000, .i1⟩
  | 16 => ⟨S1x2000000, .i1⟩
  | 17 => ⟨S2x2000000, .i1⟩
  | 18 => ⟨S2x2000000, .f32⟩
  | 19 => ⟨S2x2000000, .i1⟩
  | 20 => ⟨S2x2000000, .f32⟩
  | 21 => ⟨S_, .i32⟩
  | 22 => ⟨S2000000, .i32⟩
  | 23 => ⟨S2000000, .i32⟩
  | 24 => ⟨S_, .i32⟩
  | 25 => ⟨S2000000, .i32⟩
  | 26 => ⟨S2000000, .i32⟩
  | 27 => ⟨S_, .i32⟩
  | 28 => ⟨S2000000, .i32⟩
  | 29 => ⟨S2000000, .i1⟩
  | 30 => ⟨S1x2000000, .i1⟩
  | 31 => ⟨S2x2000000, .i1⟩
  | 32 => ⟨S2x2000000, .f32⟩
  | 33 => ⟨S2x2000000, .f32⟩
  | 34 => ⟨S2x1x1, .f32⟩
  | 35 => ⟨S2, .f32⟩
  | 36 => ⟨S2x1, .f32⟩
  | 37 => ⟨S2x1x1, .f32⟩
  | 38 => ⟨S2, .f32⟩
  | 39 => ⟨S2x1, .f32⟩
  | 40 => ⟨S2x1x1, .f32⟩
  | 41 => ⟨S2, .f32⟩
  | 42 => ⟨S2x1, .f32⟩
  | 43 => ⟨S2x1x1, .f32⟩
  | 44 => ⟨S2, .f32⟩
  | 45 => ⟨S2x1, .f32⟩
  | 46 => ⟨S2x1x1, .f32⟩
  | 47 => ⟨S2, .f32⟩
  | 48 => ⟨S2x1, .f32⟩
  | 49 => ⟨S2x1x1, .f32⟩
  | 50 => ⟨S2, .f32⟩
  | 51 => ⟨S2x1, .f32⟩
  | 52 => ⟨S2x1x1, .f32⟩
  | 53 => ⟨S2, .f32⟩
  | 54 => ⟨S2x1, .f32⟩
  | 55 => ⟨S2x1x1, .f32⟩
  | 56 => ⟨S2, .f32⟩
  | 57 => ⟨S2x1, .f32⟩
  | 58 => ⟨S2x1x1, .f32⟩
  | 59 => ⟨S2, .f32⟩
  | 60 => ⟨S2x1, .f32⟩
  | 61 => ⟨S2x1x1, .f32⟩
  | 62 => ⟨S2, .f32⟩
  | 63 => ⟨S2x1, .f32⟩
  | 64 => ⟨S2x1x1, .f32⟩
  | 65 => ⟨S2, .f32⟩
  | 66 => ⟨S2x1, .f32⟩
  | 67 => ⟨S2x1x1, .f32⟩
  | 68 => ⟨S2, .f32⟩
  | 69 => ⟨S2x1, .f32⟩
  | 70 => ⟨S2x1x1, .f32⟩
  | 71 => ⟨S2, .f32⟩
  | 72 => ⟨S2x1, .f32⟩
  | 73 => ⟨S2x1x1, .f32⟩
  | 74 => ⟨S2, .f32⟩
  | 75 => ⟨S2x1, .f32⟩
  | 76 => ⟨S2x1x1, .f32⟩
  | 77 => ⟨S2, .f32⟩
  | 78 => ⟨S2x1, .f32⟩
  | 79 => ⟨S2x1x1, .f32⟩
  | 80 => ⟨S2, .f32⟩
  | 81 => ⟨S2x1, .f32⟩
  | 82 => ⟨S_, .i32⟩
  | 83 => ⟨S2000000, .i32⟩
  | 84 => ⟨S2000000, .i32⟩
  | 85 => ⟨S_, .i32⟩
  | 86 => ⟨S2000000, .i32⟩
  | 87 => ⟨S2000000, .i32⟩
  | 88 => ⟨S_, .i32⟩
  | 89 => ⟨S2000000, .i32⟩
  | 90 => ⟨S2000000, .i1⟩
  | 91 => ⟨S1x2000000, .i1⟩
  | 92 => ⟨S2x2000000, .i1⟩
  | 93 => ⟨S2x2000000, .f32⟩
  | 94 => ⟨S2x2000000, .f32⟩
  | 95 => ⟨S2x2000000, .f32⟩
  | 96 => ⟨S2x2000000, .i1⟩
  | 97 => ⟨S2x2000000, .f32⟩
  | 98 => ⟨S2x2000000, .f32⟩
  | 99 => ⟨S2x2000000, .f32⟩
  | 100 => ⟨S2x2000000, .i1⟩
  | 101 => ⟨S2x2000000, .f32⟩
  | 102 => ⟨S2x2000000, .f32⟩
  | 103 => ⟨S2x2000000, .f32⟩
  | 104 => ⟨S2x2000000, .i1⟩
  | 105 => ⟨S2x2000000, .f32⟩
  | 106 => ⟨S2x2000000, .f32⟩
  | 107 => ⟨S2x2000000, .f32⟩
  | 108 => ⟨S2x2000000, .i1⟩
  | 109 => ⟨S2x2000000, .f32⟩
  | 110 => ⟨S2x2000000, .f32⟩
  | 111 => ⟨S2x2000000, .f32⟩
  | 112 => ⟨S2x2000000, .i1⟩
  | 113 => ⟨S2x2000000, .f32⟩
  | 114 => ⟨S2x2000000, .f32⟩
  | 115 => ⟨S2x2000000, .f32⟩
  | 116 => ⟨S2x2000000, .i1⟩
  | 117 => ⟨S2x2000000, .f32⟩
  | 118 => ⟨S2x2000000, .f32⟩
  | 119 => ⟨S2x2000000, .f32⟩
  | 120 => ⟨S2x2000000, .i1⟩
  | 121 => ⟨S2x2000000, .f32⟩
  | 122 => ⟨S2x2000000, .f32⟩
  | 123 => ⟨S2x2000000, .f32⟩
  | 124 => ⟨S_, .i32⟩
  | 125 => ⟨S2000000, .i32⟩
  | 126 => ⟨S2000000, .i32⟩
  | 127 => ⟨S_, .i32⟩
  | _ => ⟨S2x1024, .bf16⟩

abbrev hbmTy0_4 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i1⟩
  | 5 => ⟨S1x2000000, .i1⟩
  | 6 => ⟨S2x2000000, .i1⟩
  | 7 => ⟨S2x2000000, .f32⟩
  | 8 => ⟨S2x2000000, .i1⟩
  | 9 => ⟨S2x2000000, .f32⟩
  | 10 => ⟨S2x2000000, .i1⟩
  | 11 => ⟨S2x2000000, .f32⟩
  | 12 => ⟨S2x2000000, .i1⟩
  | 13 => ⟨S2x2000000, .f32⟩
  | 14 => ⟨S_, .i32⟩
  | 15 => ⟨S2000000, .i32⟩
  | 16 => ⟨S2000000, .i32⟩
  | 17 => ⟨S_, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S1x2000000, .i1⟩
  | 24 => ⟨S2x2000000, .i1⟩
  | 25 => ⟨S2x2000000, .f32⟩
  | 26 => ⟨S2x2000000, .i1⟩
  | 27 => ⟨S2x2000000, .f32⟩
  | 28 => ⟨S_, .i32⟩
  | 29 => ⟨S2000000, .i32⟩
  | 30 => ⟨S2000000, .i32⟩
  | 31 => ⟨S_, .i32⟩
  | 32 => ⟨S2000000, .i32⟩
  | 33 => ⟨S2000000, .i32⟩
  | 34 => ⟨S_, .i32⟩
  | 35 => ⟨S2000000, .i32⟩
  | 36 => ⟨S2000000, .i1⟩
  | 37 => ⟨S1x2000000, .i1⟩
  | 38 => ⟨S2x2000000, .i1⟩
  | 39 => ⟨S2x2000000, .f32⟩
  | 40 => ⟨S2x2000000, .f32⟩
  | 41 => ⟨S2x1x1, .f32⟩
  | 42 => ⟨S2, .f32⟩
  | 43 => ⟨S2x1, .f32⟩
  | 44 => ⟨S2x1x1, .f32⟩
  | 45 => ⟨S2, .f32⟩
  | 46 => ⟨S2x1, .f32⟩
  | 47 => ⟨S2x1x1, .f32⟩
  | 48 => ⟨S2, .f32⟩
  | 49 => ⟨S2x1, .f32⟩
  | 50 => ⟨S2x1x1, .f32⟩
  | 51 => ⟨S2, .f32⟩
  | 52 => ⟨S2x1, .f32⟩
  | 53 => ⟨S2x1x1, .f32⟩
  | 54 => ⟨S2, .f32⟩
  | 55 => ⟨S2x1, .f32⟩
  | 56 => ⟨S2x1x1, .f32⟩
  | 57 => ⟨S2, .f32⟩
  | 58 => ⟨S2x1, .f32⟩
  | 59 => ⟨S2x1x1, .f32⟩
  | 60 => ⟨S2, .f32⟩
  | 61 => ⟨S2x1, .f32⟩
  | 62 => ⟨S2x1x1, .f32⟩
  | 63 => ⟨S2, .f32⟩
  | 64 => ⟨S2x1, .f32⟩
  | 65 => ⟨S2x1x1, .f32⟩
  | 66 => ⟨S2, .f32⟩
  | 67 => ⟨S2x1, .f32⟩
  | 68 => ⟨S2x1x1, .f32⟩
  | 69 => ⟨S2, .f32⟩
  | 70 => ⟨S2x1, .f32⟩
  | 71 => ⟨S2x1x1, .f32⟩
  | 72 => ⟨S2, .f32⟩
  | 73 => ⟨S2x1, .f32⟩
  | 74 => ⟨S2x1x1, .f32⟩
  | 75 => ⟨S2, .f32⟩
  | 76 => ⟨S2x1, .f32⟩
  | 77 => ⟨S2x1x1, .f32⟩
  | 78 => ⟨S2, .f32⟩
  | 79 => ⟨S2x1, .f32⟩
  | 80 => ⟨S2x1x1, .f32⟩
  | 81 => ⟨S2, .f32⟩
  | 82 => ⟨S2x1, .f32⟩
  | 83 => ⟨S2x1x1, .f32⟩
  | 84 => ⟨S2, .f32⟩
  | 85 => ⟨S2x1, .f32⟩
  | 86 => ⟨S2x1x1, .f32⟩
  | 87 => ⟨S2, .f32⟩
  | 88 => ⟨S2x1, .f32⟩
  | 89 => ⟨S_, .i32⟩
  | 90 => ⟨S2000000, .i32⟩
  | 91 => ⟨S2000000, .i32⟩
  | 92 => ⟨S_, .i32⟩
  | 93 => ⟨S2000000, .i32⟩
  | 94 => ⟨S2000000, .i32⟩
  | 95 => ⟨S_, .i32⟩
  | 96 => ⟨S2000000, .i32⟩
  | 97 => ⟨S2000000, .i1⟩
  | 98 => ⟨S1x2000000, .i1⟩
  | 99 => ⟨S2x2000000, .i1⟩
  | 100 => ⟨S2x2000000, .f32⟩
  | 101 => ⟨S2x2000000, .f32⟩
  | 102 => ⟨S2x2000000, .f32⟩
  | 103 => ⟨S2x2000000, .i1⟩
  | 104 => ⟨S2x2000000, .f32⟩
  | 105 => ⟨S2x2000000, .f32⟩
  | 106 => ⟨S2x2000000, .f32⟩
  | 107 => ⟨S2x2000000, .i1⟩
  | 108 => ⟨S2x2000000, .f32⟩
  | 109 => ⟨S2x2000000, .f32⟩
  | 110 => ⟨S2x2000000, .f32⟩
  | 111 => ⟨S2x2000000, .i1⟩
  | 112 => ⟨S2x2000000, .f32⟩
  | 113 => ⟨S2x2000000, .f32⟩
  | 114 => ⟨S2x2000000, .f32⟩
  | 115 => ⟨S2x2000000, .i1⟩
  | 116 => ⟨S2x2000000, .f32⟩
  | 117 => ⟨S2x2000000, .f32⟩
  | 118 => ⟨S2x2000000, .f32⟩
  | 119 => ⟨S2x2000000, .i1⟩
  | 120 => ⟨S2x2000000, .f32⟩
  | 121 => ⟨S2x2000000, .f32⟩
  | 122 => ⟨S2x2000000, .f32⟩
  | 123 => ⟨S2x2000000, .i1⟩
  | 124 => ⟨S2x2000000, .f32⟩
  | 125 => ⟨S2x2000000, .f32⟩
  | 126 => ⟨S2x2000000, .f32⟩
  | 127 => ⟨S2x2000000, .i1⟩
  | _ => ⟨S2x1024, .bf16⟩

abbrev hbmTy0_5 (i : Nat) : BufTy := match i % 128 with
  | 0 => ⟨S2x2000000, .f32⟩
  | 1 => ⟨S2x2000000, .f32⟩
  | 2 => ⟨S2x2000000, .f32⟩
  | 3 => ⟨S_, .i32⟩
  | 4 => ⟨S2000000, .i32⟩
  | 5 => ⟨S2000000, .i32⟩
  | 6 => ⟨S_, .i32⟩
  | 7 => ⟨S2000000, .i32⟩
  | 8 => ⟨S2000000, .i32⟩
  | 9 => ⟨S_, .i32⟩
  | 10 => ⟨S2000000, .i32⟩
  | 11 => ⟨S2000000, .i1⟩
  | 12 => ⟨S1x2000000, .i1⟩
  | 13 => ⟨S2x2000000, .i1⟩
  | 14 => ⟨S2x2000000, .f32⟩
  | 15 => ⟨S2x2000000, .i1⟩
  | 16 => ⟨S2x2000000, .f32⟩
  | 17 => ⟨S2x2000000, .i1⟩
  | 18 => ⟨S2x2000000, .f32⟩
  | 19 => ⟨S2x2000000, .i1⟩
  | 20 => ⟨S2x2000000, .f32⟩
  | 21 => ⟨S_, .i32⟩
  | 22 => ⟨S2000000, .i32⟩
  | 23 => ⟨S2000000, .i32⟩
  | 24 => ⟨S_, .i32⟩
  | 25 => ⟨S2000000, .i32⟩
  | 26 => ⟨S2000000, .i32⟩
  | 27 => ⟨S_, .i32⟩
  | 28 => ⟨S2000000, .i32⟩
  | 29 => ⟨S2000000, .i1⟩
  | 30 => ⟨S1x2000000, .i1⟩
  | 31 => ⟨S2x2000000, .i1⟩
  | 32 => ⟨S2x2000000, .f32⟩
  | 33 => ⟨S2x2000000, .i1⟩
  | 34 => ⟨S2x2000000, .f32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i32⟩
  | 41 => ⟨S_, .i32⟩
  | 42 => ⟨S2000000, .i32⟩
  | 43 => ⟨S2000000, .i1⟩
  | 44 => ⟨S1x2000000, .i1⟩
  | 45 => ⟨S2x2000000, .i1⟩
  | 46 => ⟨S2x2000000, .f32⟩
  | 47 => ⟨S2x1x1, .f32⟩
  | 48 => ⟨S2, .f32⟩
  | 49 => ⟨S2x1, .f32⟩
  | 50 => ⟨S2x1x1, .f32⟩
  | 51 => ⟨S2, .f32⟩
  | 52 => ⟨S2x1, .f32⟩
  | 53 => ⟨S2x1x1, .f32⟩
  | 54 => ⟨S2, .f32⟩
  | 55 => ⟨S2x1, .f32⟩
  | 56 => ⟨S2x1x1, .f32⟩
  | 57 => ⟨S2, .f32⟩
  | 58 => ⟨S2x1, .f32⟩
  | 59 => ⟨S2x1x1, .f32⟩
  | 60 => ⟨S2, .f32⟩
  | 61 => ⟨S2x1, .f32⟩
  | 62 => ⟨S2x1x1, .f32⟩
  | 63 => ⟨S2, .f32⟩
  | 64 => ⟨S2x1, .f32⟩
  | 65 => ⟨S2x1x1, .f32⟩
  | 66 => ⟨S2, .f32⟩
  | 67 => ⟨S2x1, .f32⟩
  | 68 => ⟨S2x1x1, .f32⟩
  | 69 => ⟨S2, .f32⟩
  | 70 => ⟨S2x1, .f32⟩
  | 71 => ⟨S2x1x1, .f32⟩
  | 72 => ⟨S2, .f32⟩
  | 73 => ⟨S2x1, .f32⟩
  | 74 => ⟨S2x1x1, .f32⟩
  | 75 => ⟨S2, .f32⟩
  | 76 => ⟨S2x1, .f32⟩
  | 77 => ⟨S2x1x1, .f32⟩
  | 78 => ⟨S2, .f32⟩
  | 79 => ⟨S2x1, .f32⟩
  | 80 => ⟨S2x1x1, .f32⟩
  | 81 => ⟨S2, .f32⟩
  | 82 => ⟨S2x1, .f32⟩
  | 83 => ⟨S2x1x1, .f32⟩
  | 84 => ⟨S2, .f32⟩
  | 85 => ⟨S2x1, .f32⟩
  | 86 => ⟨S2x1x1, .f32⟩
  | 87 => ⟨S2, .f32⟩
  | 88 => ⟨S2x1, .f32⟩
  | 89 => ⟨S2x1x1, .f32⟩
  | 90 => ⟨S2, .f32⟩
  | 91 => ⟨S2x1, .f32⟩
  | 92 => ⟨S2x1x1, .f32⟩
  | 93 => ⟨S2, .f32⟩
  | 94 => ⟨S2x1, .f32⟩
  | 95 => ⟨S_, .i32⟩
  | 96 => ⟨S2000000, .i32⟩
  | 97 => ⟨S2000000, .i32⟩
  | 98 => ⟨S_, .i32⟩
  | 99 => ⟨S2000000, .i32⟩
  | 100 => ⟨S2000000, .i32⟩
  | 101 => ⟨S_, .i32⟩
  | 102 => ⟨S2000000, .i32⟩
  | 103 => ⟨S2000000, .i1⟩
  | 104 => ⟨S1x2000000, .i1⟩
  | 105 => ⟨S2x2000000, .i1⟩
  | 106 => ⟨S2x2000000, .f32⟩
  | 107 => ⟨S2x2000000, .f32⟩
  | 108 => ⟨S2x2000000, .f32⟩
  | 109 => ⟨S2x2000000, .i1⟩
  | 110 => ⟨S2x2000000, .f32⟩
  | 111 => ⟨S2x2000000, .f32⟩
  | 112 => ⟨S2x2000000, .f32⟩
  | 113 => ⟨S2x2000000, .i1⟩
  | 114 => ⟨S2x2000000, .f32⟩
  | 115 => ⟨S2x2000000, .f32⟩
  | 116 => ⟨S2x2000000, .f32⟩
  | 117 => ⟨S2x2000000, .i1⟩
  | 118 => ⟨S2x2000000, .f32⟩
  | 119 => ⟨S2x2000000, .f32⟩
  | 120 => ⟨S2x2000000, .f32⟩
  | 121 => ⟨S2x2000000, .i1⟩
  | 122 => ⟨S2x2000000, .f32⟩
  | 123 => ⟨S2x2000000, .f32⟩
  | 124 => ⟨S2x2000000, .f32⟩
  | 125 => ⟨S2x2000000, .i1⟩
  | 126 => ⟨S2x2000000, .f32⟩
  | 127 => ⟨S2x2000000, .f32⟩
  | _ => ⟨S2x1024, .bf16⟩

abbrev hbmTy0_6 (i : Nat) : BufTy := match i % 128 with
  | 0 => ⟨S2x2000000, .f32⟩
  | 1 => ⟨S2x2000000, .i1⟩
  | 2 => ⟨S2x2000000, .f32⟩
  | 3 => ⟨S2x2000000, .f32⟩
  | 4 => ⟨S2x2000000, .f32⟩
  | 5 => ⟨S2x2000000, .i1⟩
  | 6 => ⟨S2x2000000, .f32⟩
  | 7 => ⟨S2x2000000, .f32⟩
  | 8 => ⟨S2x2000000, .f32⟩
  | 9 => ⟨S_, .i32⟩
  | 10 => ⟨S2000000, .i32⟩
  | 11 => ⟨S2000000, .i32⟩
  | 12 => ⟨S_, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S1x2000000, .i1⟩
  | 19 => ⟨S2x2000000, .i1⟩
  | 20 => ⟨S2x2000000, .f32⟩
  | 21 => ⟨S2x2000000, .i1⟩
  | 22 => ⟨S2x2000000, .f32⟩
  | 23 => ⟨S2x2000000, .i1⟩
  | 24 => ⟨S2x2000000, .f32⟩
  | 25 => ⟨S2x2000000, .i1⟩
  | 26 => ⟨S2x2000000, .f32⟩
  | 27 => ⟨S_, .i32⟩
  | 28 => ⟨S2000000, .i32⟩
  | 29 => ⟨S2000000, .i32⟩
  | 30 => ⟨S_, .i32⟩
  | 31 => ⟨S2000000, .i32⟩
  | 32 => ⟨S2000000, .i32⟩
  | 33 => ⟨S_, .i32⟩
  | 34 => ⟨S2000000, .i32⟩
  | 35 => ⟨S2000000, .i1⟩
  | 36 => ⟨S1x2000000, .i1⟩
  | 37 => ⟨S2x2000000, .i1⟩
  | 38 => ⟨S2x2000000, .f32⟩
  | 39 => ⟨S2x2000000, .i1⟩
  | 40 => ⟨S2x2000000, .f32⟩
  | 41 => ⟨S_, .i32⟩
  | 42 => ⟨S2000000, .i32⟩
  | 43 => ⟨S2000000, .i32⟩
  | 44 => ⟨S_, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S1x2000000, .i1⟩
  | 51 => ⟨S2x2000000, .i1⟩
  | 52 => ⟨S2x2000000, .f32⟩
  | 53 => ⟨S2x2000000, .f32⟩
  | 54 => ⟨S2x1x1, .f32⟩
  | 55 => ⟨S2, .f32⟩
  | 56 => ⟨S2x1, .f32⟩
  | 57 => ⟨S2x1x1, .f32⟩
  | 58 => ⟨S2, .f32⟩
  | 59 => ⟨S2x1, .f32⟩
  | 60 => ⟨S2x1x1, .f32⟩
  | 61 => ⟨S2, .f32⟩
  | 62 => ⟨S2x1, .f32⟩
  | 63 => ⟨S2x1x1, .f32⟩
  | 64 => ⟨S2, .f32⟩
  | 65 => ⟨S2x1, .f32⟩
  | 66 => ⟨S2x1x1, .f32⟩
  | 67 => ⟨S2, .f32⟩
  | 68 => ⟨S2x1, .f32⟩
  | 69 => ⟨S2x1x1, .f32⟩
  | 70 => ⟨S2, .f32⟩
  | 71 => ⟨S2x1, .f32⟩
  | 72 => ⟨S2x1x1, .f32⟩
  | 73 => ⟨S2, .f32⟩
  | 74 => ⟨S2x1, .f32⟩
  | 75 => ⟨S2x1x1, .f32⟩
  | 76 => ⟨S2, .f32⟩
  | 77 => ⟨S2x1, .f32⟩
  | 78 => ⟨S2x1x1, .f32⟩
  | 79 => ⟨S2, .f32⟩
  | 80 => ⟨S2x1, .f32⟩
  | 81 => ⟨S2x1x1, .f32⟩
  | 82 => ⟨S2, .f32⟩
  | 83 => ⟨S2x1, .f32⟩
  | 84 => ⟨S2x1x1, .f32⟩
  | 85 => ⟨S2, .f32⟩
  | 86 => ⟨S2x1, .f32⟩
  | 87 => ⟨S2x1x1, .f32⟩
  | 88 => ⟨S2, .f32⟩
  | 89 => ⟨S2x1, .f32⟩
  | 90 => ⟨S2x1x1, .f32⟩
  | 91 => ⟨S2, .f32⟩
  | 92 => ⟨S2x1, .f32⟩
  | 93 => ⟨S2x1x1, .f32⟩
  | 94 => ⟨S2, .f32⟩
  | 95 => ⟨S2x1, .f32⟩
  | 96 => ⟨S2x1x1, .f32⟩
  | 97 => ⟨S2, .f32⟩
  | 98 => ⟨S2x1, .f32⟩
  | 99 => ⟨S2x1x1, .f32⟩
  | 100 => ⟨S2, .f32⟩
  | 101 => ⟨S2x1, .f32⟩
  | 102 => ⟨S_, .i32⟩
  | 103 => ⟨S2000000, .i32⟩
  | 104 => ⟨S2000000, .i32⟩
  | 105 => ⟨S_, .i32⟩
  | 106 => ⟨S2000000, .i32⟩
  | 107 => ⟨S2000000, .i32⟩
  | 108 => ⟨S_, .i32⟩
  | 109 => ⟨S2000000, .i32⟩
  | 110 => ⟨S2000000, .i1⟩
  | 111 => ⟨S1x2000000, .i1⟩
  | 112 => ⟨S2x2000000, .i1⟩
  | 113 => ⟨S2x2000000, .f32⟩
  | 114 => ⟨S2x2000000, .f32⟩
  | 115 => ⟨S2x2000000, .f32⟩
  | 116 => ⟨S2x2000000, .i1⟩
  | 117 => ⟨S2x2000000, .f32⟩
  | 118 => ⟨S2x2000000, .f32⟩
  | 119 => ⟨S2x2000000, .f32⟩
  | 120 => ⟨S2x2000000, .i1⟩
  | 121 => ⟨S2x2000000, .f32⟩
  | 122 => ⟨S2x2000000, .f32⟩
  | 123 => ⟨S2x2000000, .f32⟩
  | 124 => ⟨S2x2000000, .i1⟩
  | 125 => ⟨S2x2000000, .f32⟩
  | 126 => ⟨S2x2000000, .f32⟩
  | 127 => ⟨S2x2000000, .f32⟩
  | _ => ⟨S2x1024, .bf16⟩

abbrev hbmTy0_7 (i : Nat) : BufTy := match i % 128 with
  | 0 => ⟨S2x2000000, .i1⟩
  | 1 => ⟨S2x2000000, .f32⟩
  | 2 => ⟨S2x2000000, .f32⟩
  | 3 => ⟨S2x2000000, .f32⟩
  | 4 => ⟨S2x2000000, .i1⟩
  | 5 => ⟨S2x2000000, .f32⟩
  | 6 => ⟨S2x2000000, .f32⟩
  | 7 => ⟨S2x2000000, .f32⟩
  | 8 => ⟨S2x2000000, .i1⟩
  | 9 => ⟨S2x2000000, .f32⟩
  | 10 => ⟨S2x2000000, .f32⟩
  | 11 => ⟨S2x2000000, .f32⟩
  | 12 => ⟨S2x2000000, .i1⟩
  | 13 => ⟨S2x2000000, .f32⟩
  | 14 => ⟨S2x2000000, .f32⟩
  | 15 => ⟨S2x2000000, .f32⟩
  | 16 => ⟨S_, .i32⟩
  | 17 => ⟨S2000000, .i32⟩
  | 18 => ⟨S2000000, .i32⟩
  | 19 => ⟨S_, .i32⟩
  | 20 => ⟨S2000000, .i32⟩
  | 21 => ⟨S2000000, .i32⟩
  | 22 => ⟨S_, .i32⟩
  | 23 => ⟨S2000000, .i32⟩
  | 24 => ⟨S2000000, .i1⟩
  | 25 => ⟨S1x2000000, .i1⟩
  | 26 => ⟨S2x2000000, .i1⟩
  | 27 => ⟨S2x2000000, .f32⟩
  | 28 => ⟨S2x2000000, .i1⟩
  | 29 => ⟨S2x2000000, .f32⟩
  | 30 => ⟨S2x2000000, .i1⟩
  | 31 => ⟨S2x2000000, .f32⟩
  | 32 => ⟨S2x2000000, .i1⟩
  | 33 => ⟨S2x2000000, .f32⟩
  | 34 => ⟨S_, .i32⟩
  | 35 => ⟨S2000000, .i32⟩
  | 36 => ⟨S2000000, .i32⟩
  | 37 => ⟨S_, .i32⟩
  | 38 => ⟨S2000000, .i32⟩
  | 39 => ⟨S2000000, .i32⟩
  | 40 => ⟨S_, .i32⟩
  | 41 => ⟨S2000000, .i32⟩
  | 42 => ⟨S2000000, .i1⟩
  | 43 => ⟨S1x2000000, .i1⟩
  | 44 => ⟨S2x2000000, .i1⟩
  | 45 => ⟨S2x2000000, .f32⟩
  | 46 => ⟨S2x2000000, .i1⟩
  | 47 => ⟨S2x2000000, .f32⟩
  | 48 => ⟨S_, .i32⟩
  | 49 => ⟨S2000000, .i32⟩
  | 50 => ⟨S2000000, .i32⟩
  | 51 => ⟨S_, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S1x2000000, .i1⟩
  | 58 => ⟨S2x2000000, .i1⟩
  | 59 => ⟨S2x2000000, .f32⟩
  | 60 => ⟨S2x2000000, .f32⟩
  | 61 => ⟨S2x1x1, .f32⟩
  | 62 => ⟨S2, .f32⟩
  | 63 => ⟨S2x1, .f32⟩
  | 64 => ⟨S2x1x1, .f32⟩
  | 65 => ⟨S2, .f32⟩
  | 66 => ⟨S2x1, .f32⟩
  | 67 => ⟨S2x1x1, .f32⟩
  | 68 => ⟨S2, .f32⟩
  | 69 => ⟨S2x1, .f32⟩
  | 70 => ⟨S2x1x1, .f32⟩
  | 71 => ⟨S2, .f32⟩
  | 72 => ⟨S2x1, .f32⟩
  | 73 => ⟨S2x1x1, .f32⟩
  | 74 => ⟨S2, .f32⟩
  | 75 => ⟨S2x1, .f32⟩
  | 76 => ⟨S2x1x1, .f32⟩
  | 77 => ⟨S2, .f32⟩
  | 78 => ⟨S2x1, .f32⟩
  | 79 => ⟨S2x1x1, .f32⟩
  | 80 => ⟨S2, .f32⟩
  | 81 => ⟨S2x1, .f32⟩
  | 82 => ⟨S2x1x1, .f32⟩
  | 83 => ⟨S2, .f32⟩
  | 84 => ⟨S2x1, .f32⟩
  | 85 => ⟨S2x1x1, .f32⟩
  | 86 => ⟨S2, .f32⟩
  | 87 => ⟨S2x1, .f32⟩
  | 88 => ⟨S2x1x1, .f32⟩
  | 89 => ⟨S2, .f32⟩
  | 90 => ⟨S2x1, .f32⟩
  | 91 => ⟨S2x1x1, .f32⟩
  | 92 => ⟨S2, .f32⟩
  | 93 => ⟨S2x1, .f32⟩
  | 94 => ⟨S2x1x1, .f32⟩
  | 95 => ⟨S2, .f32⟩
  | 96 => ⟨S2x1, .f32⟩
  | 97 => ⟨S2x1x1, .f32⟩
  | 98 => ⟨S2, .f32⟩
  | 99 => ⟨S2x1, .f32⟩
  | 100 => ⟨S2x1x1, .f32⟩
  | 101 => ⟨S2, .f32⟩
  | 102 => ⟨S2x1, .f32⟩
  | 103 => ⟨S2x1x1, .f32⟩
  | 104 => ⟨S2, .f32⟩
  | 105 => ⟨S2x1, .f32⟩
  | 106 => ⟨S2x1x1, .f32⟩
  | 107 => ⟨S2, .f32⟩
  | 108 => ⟨S2x1, .f32⟩
  | 109 => ⟨S_, .i32⟩
  | 110 => ⟨S2000000, .i32⟩
  | 111 => ⟨S2000000, .i32⟩
  | 112 => ⟨S_, .i32⟩
  | 113 => ⟨S2000000, .i32⟩
  | 114 => ⟨S2000000, .i32⟩
  | 115 => ⟨S_, .i32⟩
  | 116 => ⟨S2000000, .i32⟩
  | 117 => ⟨S2000000, .i1⟩
  | 118 => ⟨S1x2000000, .i1⟩
  | 119 => ⟨S2x2000000, .i1⟩
  | 120 => ⟨S2x2000000, .f32⟩
  | 121 => ⟨S2x2000000, .f32⟩
  | 122 => ⟨S2x2000000, .f32⟩
  | 123 => ⟨S2x2000000, .i1⟩
  | 124 => ⟨S2x2000000, .f32⟩
  | 125 => ⟨S2x2000000, .f32⟩
  | 126 => ⟨S2x2000000, .f32⟩
  | 127 => ⟨S2x2000000, .i1⟩
  | _ => ⟨S2x1024, .bf16⟩

abbrev hbmTy0_8 (i : Nat) : BufTy := match i % 128 with
  | 0 => ⟨S2x2000000, .f32⟩
  | 1 => ⟨S2x2000000, .f32⟩
  | 2 => ⟨S2x2000000, .f32⟩
  | 3 => ⟨S2x2000000, .i1⟩
  | 4 => ⟨S2x2000000, .f32⟩
  | 5 => ⟨S2x2000000, .f32⟩
  | 6 => ⟨S2x2000000, .f32⟩
  | 7 => ⟨S2x2000000, .i1⟩
  | 8 => ⟨S2x2000000, .f32⟩
  | 9 => ⟨S2x2000000, .f32⟩
  | 10 => ⟨S2x2000000, .f32⟩
  | 11 => ⟨S2x2000000, .i1⟩
  | 12 => ⟨S2x2000000, .f32⟩
  | 13 => ⟨S2x2000000, .f32⟩
  | 14 => ⟨S2x2000000, .f32⟩
  | 15 => ⟨S2x2000000, .i1⟩
  | 16 => ⟨S2x2000000, .f32⟩
  | 17 => ⟨S2x2000000, .f32⟩
  | 18 => ⟨S2x2000000, .f32⟩
  | 19 => ⟨S2x2000000, .i1⟩
  | 20 => ⟨S2x2000000, .f32⟩
  | 21 => ⟨S2x2000000, .f32⟩
  | 22 => ⟨S2x2000000, .f32⟩
  | 23 => ⟨S_, .i32⟩
  | 24 => ⟨S2000000, .i32⟩
  | 25 => ⟨S2000000, .i32⟩
  | 26 => ⟨S_, .i32⟩
  | 27 => ⟨S2000000, .i32⟩
  | 28 => ⟨S2000000, .i32⟩
  | 29 => ⟨S_, .i32⟩
  | 30 => ⟨S2000000, .i32⟩
  | 31 => ⟨S2000000, .i1⟩
  | 32 => ⟨S1x2000000, .i1⟩
  | 33 => ⟨S2x2000000, .i1⟩
  | 34 => ⟨S2x2000000, .f32⟩
  | 35 => ⟨S2x2000000, .i1⟩
  | 36 => ⟨S2x2000000, .f32⟩
  | 37 => ⟨S2x2000000, .i1⟩
  | 38 => ⟨S2x2000000, .f32⟩
  | 39 => ⟨S2x2000000, .i1⟩
  | 40 => ⟨S2x2000000, .f32⟩
  | 41 => ⟨S_, .i32⟩
  | 42 => ⟨S2000000, .i32⟩
  | 43 => ⟨S2000000, .i32⟩
  | 44 => ⟨S_, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S1x2000000, .i1⟩
  | 51 => ⟨S2x2000000, .i1⟩
  | 52 => ⟨S2x2000000, .f32⟩
  | 53 => ⟨S2x2000000, .i1⟩
  | 54 => ⟨S2x2000000, .f32⟩
  | 55 => ⟨S_, .i32⟩
  | 56 => ⟨S2000000, .i32⟩
  | 57 => ⟨S2000000, .i32⟩
  | 58 => ⟨S_, .i32⟩
  | 59 => ⟨S2000000, .i32⟩
  | 60 => ⟨S2000000, .i32⟩
  | 61 => ⟨S_, .i32⟩
  | 62 => ⟨S2000000, .i32⟩
  | 63 => ⟨S2000000, .i1⟩
  | 64 => ⟨S1x2000000, .i1⟩
  | 65 => ⟨S2x2000000, .i1⟩
  | 66 => ⟨S2x2000000, .f32⟩
  | 67 => ⟨S2x2000000, .f32⟩
  | 68 => ⟨S2x2000000, .f32⟩
  | 69 => ⟨S2x2000000, .bf16⟩
  | _ => ⟨S2x1024, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x1024, .bf16⟩

abbrev bufTy : (tb : Table) → Fin (tcTables nBuf tb) → BufTy
  | .hbm, ⟨i, _⟩ => hbmTy i
  | _, _ => ⟨S2x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_c : Ref sig .tc := ⟨.hbm, 62, rfl⟩
abbrev main_v58 : Ref sig .tc := ⟨.hbm, 63, rfl⟩
abbrev main_v59 : Ref sig .tc := ⟨.hbm, 64, rfl⟩
abbrev main_c_0 : Ref sig .tc := ⟨.hbm, 65, rfl⟩
abbrev main_v60 : Ref sig .tc := ⟨.hbm, 66, rfl⟩
abbrev main_v61 : Ref sig .tc := ⟨.hbm, 67, rfl⟩
abbrev main_c_1 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v65 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v66 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v67 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v68 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v69 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v70 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_v71 : Ref sig .tc := ⟨.hbm, 99, rfl⟩
abbrev main_call7_v0 : Ref sig .tc := ⟨.hbm, 100, rfl⟩
abbrev main_call7_v1 : Ref sig .tc := ⟨.hbm, 101, rfl⟩
abbrev main_call7_v2 : Ref sig .tc := ⟨.hbm, 102, rfl⟩
abbrev main_v72 : Ref sig .tc := ⟨.hbm, 103, rfl⟩
abbrev main_c_2 : Ref sig .tc := ⟨.hbm, 104, rfl⟩
abbrev main_v73 : Ref sig .tc := ⟨.hbm, 105, rfl⟩
abbrev main_v74 : Ref sig .tc := ⟨.hbm, 106, rfl⟩
abbrev main_c_3 : Ref sig .tc := ⟨.hbm, 107, rfl⟩
abbrev main_v75 : Ref sig .tc := ⟨.hbm, 108, rfl⟩
abbrev main_v76 : Ref sig .tc := ⟨.hbm, 109, rfl⟩
abbrev main_c_4 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call8_v0 : Ref sig .tc := ⟨.hbm, 114, rfl⟩
abbrev main_v80 : Ref sig .tc := ⟨.hbm, 115, rfl⟩
abbrev main_call9_v0 : Ref sig .tc := ⟨.hbm, 116, rfl⟩
abbrev main_v81 : Ref sig .tc := ⟨.hbm, 117, rfl⟩
abbrev main_call10_v0 : Ref sig .tc := ⟨.hbm, 118, rfl⟩
abbrev main_v82 : Ref sig .tc := ⟨.hbm, 119, rfl⟩
abbrev main_call11_v0 : Ref sig .tc := ⟨.hbm, 120, rfl⟩
abbrev main_v83 : Ref sig .tc := ⟨.hbm, 121, rfl⟩
abbrev main_c_5 : Ref sig .tc := ⟨.hbm, 122, rfl⟩
abbrev main_v84 : Ref sig .tc := ⟨.hbm, 123, rfl⟩
abbrev main_v85 : Ref sig .tc := ⟨.hbm, 124, rfl⟩
abbrev main_c_6 : Ref sig .tc := ⟨.hbm, 125, rfl⟩
abbrev main_v86 : Ref sig .tc := ⟨.hbm, 126, rfl⟩
abbrev main_v87 : Ref sig .tc := ⟨.hbm, 127, rfl⟩
abbrev main_c_7 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call12_v0 : Ref sig .tc := ⟨.hbm, 132, rfl⟩
abbrev main_v91 : Ref sig .tc := ⟨.hbm, 133, rfl⟩
abbrev main_call13_v0 : Ref sig .tc := ⟨.hbm, 134, rfl⟩
abbrev main_v92 : Ref sig .tc := ⟨.hbm, 135, rfl⟩
abbrev main_c_8 : Ref sig .tc := ⟨.hbm, 136, rfl⟩
abbrev main_v93 : Ref sig .tc := ⟨.hbm, 137, rfl⟩
abbrev main_v94 : Ref sig .tc := ⟨.hbm, 138, rfl⟩
abbrev main_c_9 : Ref sig .tc := ⟨.hbm, 139, rfl⟩
abbrev main_v95 : Ref sig .tc := ⟨.hbm, 140, rfl⟩
abbrev main_v96 : Ref sig .tc := ⟨.hbm, 141, rfl⟩
abbrev main_c_10 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call14_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_c_11 : Ref sig .tc := ⟨.hbm, 196, rfl⟩
abbrev main_v149 : Ref sig .tc := ⟨.hbm, 197, rfl⟩
abbrev main_v150 : Ref sig .tc := ⟨.hbm, 198, rfl⟩
abbrev main_c_12 : Ref sig .tc := ⟨.hbm, 199, rfl⟩
abbrev main_v151 : Ref sig .tc := ⟨.hbm, 200, rfl⟩
abbrev main_v152 : Ref sig .tc := ⟨.hbm, 201, rfl⟩
abbrev main_c_13 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_call15_v0 : Ref sig .tc := ⟨.hbm, 206, rfl⟩
abbrev main_call15_v1 : Ref sig .tc := ⟨.hbm, 207, rfl⟩
abbrev main_call15_v2 : Ref sig .tc := ⟨.hbm, 208, rfl⟩
abbrev main_v156 : Ref sig .tc := ⟨.hbm, 209, rfl⟩
abbrev main_call16_v0 : Ref sig .tc := ⟨.hbm, 210, rfl⟩
abbrev main_call16_v1 : Ref sig .tc := ⟨.hbm, 211, rfl⟩
abbrev main_call16_v2 : Ref sig .tc := ⟨.hbm, 212, rfl⟩
abbrev main_v157 : Ref sig .tc := ⟨.hbm, 213, rfl⟩
abbrev main_call17_v0 : Ref sig .tc := ⟨.hbm, 214, rfl⟩
abbrev main_call17_v1 : Ref sig .tc := ⟨.hbm, 215, rfl⟩
abbrev main_call17_v2 : Ref sig .tc := ⟨.hbm, 216, rfl⟩
abbrev main_v158 : Ref sig .tc := ⟨.hbm, 217, rfl⟩
abbrev main_call18_v0 : Ref sig .tc := ⟨.hbm, 218, rfl⟩
abbrev main_call18_v1 : Ref sig .tc := ⟨.hbm, 219, rfl⟩
abbrev main_call18_v2 : Ref sig .tc := ⟨.hbm, 220, rfl⟩
abbrev main_v159 : Ref sig .tc := ⟨.hbm, 221, rfl⟩
abbrev main_call19_v0 : Ref sig .tc := ⟨.hbm, 222, rfl⟩
abbrev main_call19_v1 : Ref sig .tc := ⟨.hbm, 223, rfl⟩
abbrev main_call19_v2 : Ref sig .tc := ⟨.hbm, 224, rfl⟩
abbrev main_v160 : Ref sig .tc := ⟨.hbm, 225, rfl⟩
abbrev main_call20_v0 : Ref sig .tc := ⟨.hbm, 226, rfl⟩
abbrev main_call20_v1 : Ref sig .tc := ⟨.hbm, 227, rfl⟩
abbrev main_call20_v2 : Ref sig .tc := ⟨.hbm, 228, rfl⟩
abbrev main_v161 : Ref sig .tc := ⟨.hbm, 229, rfl⟩
abbrev main_call21_v0 : Ref sig .tc := ⟨.hbm, 230, rfl⟩
abbrev main_call21_v1 : Ref sig .tc := ⟨.hbm, 231, rfl⟩
abbrev main_call21_v2 : Ref sig .tc := ⟨.hbm, 232, rfl⟩
abbrev main_v162 : Ref sig .tc := ⟨.hbm, 233, rfl⟩
abbrev main_call22_v0 : Ref sig .tc := ⟨.hbm, 234, rfl⟩
abbrev main_call22_v1 : Ref sig .tc := ⟨.hbm, 235, rfl⟩
abbrev main_call22_v2 : Ref sig .tc := ⟨.hbm, 236, rfl⟩
abbrev main_v163 : Ref sig .tc := ⟨.hbm, 237, rfl⟩
abbrev main_c_14 : Ref sig .tc := ⟨.hbm, 238, rfl⟩
abbrev main_v164 : Ref sig .tc := ⟨.hbm, 239, rfl⟩
abbrev main_v165 : Ref sig .tc := ⟨.hbm, 240, rfl⟩
abbrev main_c_15 : Ref sig .tc := ⟨.hbm, 241, rfl⟩
abbrev main_v166 : Ref sig .tc := ⟨.hbm, 242, rfl⟩
abbrev main_v167 : Ref sig .tc := ⟨.hbm, 243, rfl⟩
abbrev main_c_16 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_call23_v0 : Ref sig .tc := ⟨.hbm, 248, rfl⟩
abbrev main_v171 : Ref sig .tc := ⟨.hbm, 249, rfl⟩
abbrev main_call24_v0 : Ref sig .tc := ⟨.hbm, 250, rfl⟩
abbrev main_v172 : Ref sig .tc := ⟨.hbm, 251, rfl⟩
abbrev main_call25_v0 : Ref sig .tc := ⟨.hbm, 252, rfl⟩
abbrev main_v173 : Ref sig .tc := ⟨.hbm, 253, rfl⟩
abbrev main_call26_v0 : Ref sig .tc := ⟨.hbm, 254, rfl⟩
abbrev main_v174 : Ref sig .tc := ⟨.hbm, 255, rfl⟩
abbrev main_c_17 : Ref sig .tc := ⟨.hbm, 256, rfl⟩
abbrev main_v175 : Ref sig .tc := ⟨.hbm, 257, rfl⟩
abbrev main_v176 : Ref sig .tc := ⟨.hbm, 258, rfl⟩
abbrev main_c_18 : Ref sig .tc := ⟨.hbm, 259, rfl⟩
abbrev main_v177 : Ref sig .tc := ⟨.hbm, 260, rfl⟩
abbrev main_v178 : Ref sig .tc := ⟨.hbm, 261, rfl⟩
abbrev main_c_19 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_call27_v0 : Ref sig .tc := ⟨.hbm, 266, rfl⟩
abbrev main_v182 : Ref sig .tc := ⟨.hbm, 267, rfl⟩
abbrev main_call28_v0 : Ref sig .tc := ⟨.hbm, 268, rfl⟩
abbrev main_v183 : Ref sig .tc := ⟨.hbm, 269, rfl⟩
abbrev main_c_20 : Ref sig .tc := ⟨.hbm, 270, rfl⟩
abbrev main_v184 : Ref sig .tc := ⟨.hbm, 271, rfl⟩
abbrev main_v185 : Ref sig .tc := ⟨.hbm, 272, rfl⟩
abbrev main_c_21 : Ref sig .tc := ⟨.hbm, 273, rfl⟩
abbrev main_v186 : Ref sig .tc := ⟨.hbm, 274, rfl⟩
abbrev main_v187 : Ref sig .tc := ⟨.hbm, 275, rfl⟩
abbrev main_c_22 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_call29_v0 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_c_23 : Ref sig .tc := ⟨.hbm, 331, rfl⟩
abbrev main_v241 : Ref sig .tc := ⟨.hbm, 332, rfl⟩
abbrev main_v242 : Ref sig .tc := ⟨.hbm, 333, rfl⟩
abbrev main_c_24 : Ref sig .tc := ⟨.hbm, 334, rfl⟩
abbrev main_v243 : Ref sig .tc := ⟨.hbm, 335, rfl⟩
abbrev main_v244 : Ref sig .tc := ⟨.hbm, 336, rfl⟩
abbrev main_c_25 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_call30_v0 : Ref sig .tc := ⟨.hbm, 341, rfl⟩
abbrev main_call30_v1 : Ref sig .tc := ⟨.hbm, 342, rfl⟩
abbrev main_call30_v2 : Ref sig .tc := ⟨.hbm, 343, rfl⟩
abbrev main_v248 : Ref sig .tc := ⟨.hbm, 344, rfl⟩
abbrev main_call31_v0 : Ref sig .tc := ⟨.hbm, 345, rfl⟩
abbrev main_call31_v1 : Ref sig .tc := ⟨.hbm, 346, rfl⟩
abbrev main_call31_v2 : Ref sig .tc := ⟨.hbm, 347, rfl⟩
abbrev main_v249 : Ref sig .tc := ⟨.hbm, 348, rfl⟩
abbrev main_call32_v0 : Ref sig .tc := ⟨.hbm, 349, rfl⟩
abbrev main_call32_v1 : Ref sig .tc := ⟨.hbm, 350, rfl⟩
abbrev main_call32_v2 : Ref sig .tc := ⟨.hbm, 351, rfl⟩
abbrev main_v250 : Ref sig .tc := ⟨.hbm, 352, rfl⟩
abbrev main_call33_v0 : Ref sig .tc := ⟨.hbm, 353, rfl⟩
abbrev main_call33_v1 : Ref sig .tc := ⟨.hbm, 354, rfl⟩
abbrev main_call33_v2 : Ref sig .tc := ⟨.hbm, 355, rfl⟩
abbrev main_v251 : Ref sig .tc := ⟨.hbm, 356, rfl⟩
abbrev main_call34_v0 : Ref sig .tc := ⟨.hbm, 357, rfl⟩
abbrev main_call34_v1 : Ref sig .tc := ⟨.hbm, 358, rfl⟩
abbrev main_call34_v2 : Ref sig .tc := ⟨.hbm, 359, rfl⟩
abbrev main_v252 : Ref sig .tc := ⟨.hbm, 360, rfl⟩
abbrev main_call35_v0 : Ref sig .tc := ⟨.hbm, 361, rfl⟩
abbrev main_call35_v1 : Ref sig .tc := ⟨.hbm, 362, rfl⟩
abbrev main_call35_v2 : Ref sig .tc := ⟨.hbm, 363, rfl⟩
abbrev main_v253 : Ref sig .tc := ⟨.hbm, 364, rfl⟩
abbrev main_call36_v0 : Ref sig .tc := ⟨.hbm, 365, rfl⟩
abbrev main_call36_v1 : Ref sig .tc := ⟨.hbm, 366, rfl⟩
abbrev main_call36_v2 : Ref sig .tc := ⟨.hbm, 367, rfl⟩
abbrev main_v254 : Ref sig .tc := ⟨.hbm, 368, rfl⟩
abbrev main_call37_v0 : Ref sig .tc := ⟨.hbm, 369, rfl⟩
abbrev main_call37_v1 : Ref sig .tc := ⟨.hbm, 370, rfl⟩
abbrev main_call37_v2 : Ref sig .tc := ⟨.hbm, 371, rfl⟩
abbrev main_v255 : Ref sig .tc := ⟨.hbm, 372, rfl⟩
abbrev main_c_26 : Ref sig .tc := ⟨.hbm, 373, rfl⟩
abbrev main_v256 : Ref sig .tc := ⟨.hbm, 374, rfl⟩
abbrev main_v257 : Ref sig .tc := ⟨.hbm, 375, rfl⟩
abbrev main_c_27 : Ref sig .tc := ⟨.hbm, 376, rfl⟩
abbrev main_v258 : Ref sig .tc := ⟨.hbm, 377, rfl⟩
abbrev main_v259 : Ref sig .tc := ⟨.hbm, 378, rfl⟩
abbrev main_c_28 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_call38_v0 : Ref sig .tc := ⟨.hbm, 383, rfl⟩
abbrev main_v263 : Ref sig .tc := ⟨.hbm, 384, rfl⟩
abbrev main_call39_v0 : Ref sig .tc := ⟨.hbm, 385, rfl⟩
abbrev main_v264 : Ref sig .tc := ⟨.hbm, 386, rfl⟩
abbrev main_call40_v0 : Ref sig .tc := ⟨.hbm, 387, rfl⟩
abbrev main_v265 : Ref sig .tc := ⟨.hbm, 388, rfl⟩
abbrev main_call41_v0 : Ref sig .tc := ⟨.hbm, 389, rfl⟩
abbrev main_v266 : Ref sig .tc := ⟨.hbm, 390, rfl⟩
abbrev main_c_29 : Ref sig .tc := ⟨.hbm, 391, rfl⟩
abbrev main_v267 : Ref sig .tc := ⟨.hbm, 392, rfl⟩
abbrev main_v268 : Ref sig .tc := ⟨.hbm, 393, rfl⟩
abbrev main_c_30 : Ref sig .tc := ⟨.hbm, 394, rfl⟩
abbrev main_v269 : Ref sig .tc := ⟨.hbm, 395, rfl⟩
abbrev main_v270 : Ref sig .tc := ⟨.hbm, 396, rfl⟩
abbrev main_c_31 : Ref sig .tc := ⟨.hbm, 397, rfl⟩
abbrev main_v271 : Ref sig .tc := ⟨.hbm, 398, rfl⟩
abbrev main_v272 : Ref sig .tc := ⟨.hbm, 399, rfl⟩
abbrev main_v273 : Ref sig .tc := ⟨.hbm, 400, rfl⟩
abbrev main_call42_v0 : Ref sig .tc := ⟨.hbm, 401, rfl⟩
abbrev main_v274 : Ref sig .tc := ⟨.hbm, 402, rfl⟩
abbrev main_call43_v0 : Ref sig .tc := ⟨.hbm, 403, rfl⟩
abbrev main_v275 : Ref sig .tc := ⟨.hbm, 404, rfl⟩
abbrev main_c_32 : Ref sig .tc := ⟨.hbm, 405, rfl⟩
abbrev main_v276 : Ref sig .tc := ⟨.hbm, 406, rfl⟩
abbrev main_v277 : Ref sig .tc := ⟨.hbm, 407, rfl⟩
abbrev main_c_33 : Ref sig .tc := ⟨.hbm, 408, rfl⟩
abbrev main_v278 : Ref sig .tc := ⟨.hbm, 409, rfl⟩
abbrev main_v279 : Ref sig .tc := ⟨.hbm, 410, rfl⟩
abbrev main_c_34 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_call44_v0 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_v311 : Ref sig .tc := ⟨.hbm, 444, rfl⟩
abbrev main_v312 : Ref sig .tc := ⟨.hbm, 445, rfl⟩
abbrev main_v313 : Ref sig .tc := ⟨.hbm, 446, rfl⟩
abbrev main_v314 : Ref sig .tc := ⟨.hbm, 447, rfl⟩
abbrev main_v315 : Ref sig .tc := ⟨.hbm, 448, rfl⟩
abbrev main_v316 : Ref sig .tc := ⟨.hbm, 449, rfl⟩
abbrev main_v317 : Ref sig .tc := ⟨.hbm, 450, rfl⟩
abbrev main_v318 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_v322 : Ref sig .tc := ⟨.hbm, 455, rfl⟩
abbrev main_v323 : Ref sig .tc := ⟨.hbm, 456, rfl⟩
abbrev main_v324 : Ref sig .tc := ⟨.hbm, 457, rfl⟩
abbrev main_v325 : Ref sig .tc := ⟨.hbm, 458, rfl⟩
abbrev main_v326 : Ref sig .tc := ⟨.hbm, 459, rfl⟩
abbrev main_v327 : Ref sig .tc := ⟨.hbm, 460, rfl⟩
abbrev main_v328 : Ref sig .tc := ⟨.hbm, 461, rfl⟩
abbrev main_v329 : Ref sig .tc := ⟨.hbm, 462, rfl⟩
abbrev main_v330 : Ref sig .tc := ⟨.hbm, 463, rfl⟩
abbrev main_v331 : Ref sig .tc := ⟨.hbm, 464, rfl⟩
abbrev main_v332 : Ref sig .tc := ⟨.hbm, 465, rfl⟩
abbrev main_c_35 : Ref sig .tc := ⟨.hbm, 466, rfl⟩
abbrev main_v333 : Ref sig .tc := ⟨.hbm, 467, rfl⟩
abbrev main_v334 : Ref sig .tc := ⟨.hbm, 468, rfl⟩
abbrev main_c_36 : Ref sig .tc := ⟨.hbm, 469, rfl⟩
abbrev main_v335 : Ref sig .tc := ⟨.hbm, 470, rfl⟩
abbrev main_v336 : Ref sig .tc := ⟨.hbm, 471, rfl⟩
abbrev main_c_37 : Ref sig .tc := ⟨.hbm, 472, rfl⟩
abbrev main_v337 : Ref sig .tc := ⟨.hbm, 473, rfl⟩
abbrev main_v338 : Ref sig .tc := ⟨.hbm, 474, rfl⟩
abbrev main_v339 : Ref sig .tc := ⟨.hbm, 475, rfl⟩
abbrev main_call45_v0 : Ref sig .tc := ⟨.hbm, 476, rfl⟩
abbrev main_call45_v1 : Ref sig .tc := ⟨.hbm, 477, rfl⟩
abbrev main_call45_v2 : Ref sig .tc := ⟨.hbm, 478, rfl⟩
abbrev main_v340 : Ref sig .tc := ⟨.hbm, 479, rfl⟩
abbrev main_call46_v0 : Ref sig .tc := ⟨.hbm, 480, rfl⟩
abbrev main_call46_v1 : Ref sig .tc := ⟨.hbm, 481, rfl⟩
abbrev main_call46_v2 : Ref sig .tc := ⟨.hbm, 482, rfl⟩
abbrev main_v341 : Ref sig .tc := ⟨.hbm, 483, rfl⟩
abbrev main_call47_v0 : Ref sig .tc := ⟨.hbm, 484, rfl⟩
abbrev main_call47_v1 : Ref sig .tc := ⟨.hbm, 485, rfl⟩
abbrev main_call47_v2 : Ref sig .tc := ⟨.hbm, 486, rfl⟩
abbrev main_v342 : Ref sig .tc := ⟨.hbm, 487, rfl⟩
abbrev main_call48_v0 : Ref sig .tc := ⟨.hbm, 488, rfl⟩
abbrev main_call48_v1 : Ref sig .tc := ⟨.hbm, 489, rfl⟩
abbrev main_call48_v2 : Ref sig .tc := ⟨.hbm, 490, rfl⟩
abbrev main_v343 : Ref sig .tc := ⟨.hbm, 491, rfl⟩
abbrev main_call49_v0 : Ref sig .tc := ⟨.hbm, 492, rfl⟩
abbrev main_call49_v1 : Ref sig .tc := ⟨.hbm, 493, rfl⟩
abbrev main_call49_v2 : Ref sig .tc := ⟨.hbm, 494, rfl⟩
abbrev main_v344 : Ref sig .tc := ⟨.hbm, 495, rfl⟩
abbrev main_call50_v0 : Ref sig .tc := ⟨.hbm, 496, rfl⟩
abbrev main_call50_v1 : Ref sig .tc := ⟨.hbm, 497, rfl⟩
abbrev main_call50_v2 : Ref sig .tc := ⟨.hbm, 498, rfl⟩
abbrev main_v345 : Ref sig .tc := ⟨.hbm, 499, rfl⟩
abbrev main_call51_v0 : Ref sig .tc := ⟨.hbm, 500, rfl⟩
abbrev main_call51_v1 : Ref sig .tc := ⟨.hbm, 501, rfl⟩
abbrev main_call51_v2 : Ref sig .tc := ⟨.hbm, 502, rfl⟩
abbrev main_v346 : Ref sig .tc := ⟨.hbm, 503, rfl⟩
abbrev main_call52_v0 : Ref sig .tc := ⟨.hbm, 504, rfl⟩
abbrev main_call52_v1 : Ref sig .tc := ⟨.hbm, 505, rfl⟩
abbrev main_call52_v2 : Ref sig .tc := ⟨.hbm, 506, rfl⟩
abbrev main_v347 : Ref sig .tc := ⟨.hbm, 507, rfl⟩
abbrev main_c_38 : Ref sig .tc := ⟨.hbm, 508, rfl⟩
abbrev main_v348 : Ref sig .tc := ⟨.hbm, 509, rfl⟩
abbrev main_v349 : Ref sig .tc := ⟨.hbm, 510, rfl⟩
abbrev main_c_39 : Ref sig .tc := ⟨.hbm, 511, rfl⟩
abbrev main_v350 : Ref sig .tc := ⟨.hbm, 512, rfl⟩
abbrev main_v351 : Ref sig .tc := ⟨.hbm, 513, rfl⟩
abbrev main_c_40 : Ref sig .tc := ⟨.hbm, 514, rfl⟩
abbrev main_v352 : Ref sig .tc := ⟨.hbm, 515, rfl⟩
abbrev main_v353 : Ref sig .tc := ⟨.hbm, 516, rfl⟩
abbrev main_v354 : Ref sig .tc := ⟨.hbm, 517, rfl⟩
abbrev main_call53_v0 : Ref sig .tc := ⟨.hbm, 518, rfl⟩
abbrev main_v355 : Ref sig .tc := ⟨.hbm, 519, rfl⟩
abbrev main_call54_v0 : Ref sig .tc := ⟨.hbm, 520, rfl⟩
abbrev main_v356 : Ref sig .tc := ⟨.hbm, 521, rfl⟩
abbrev main_call55_v0 : Ref sig .tc := ⟨.hbm, 522, rfl⟩
abbrev main_v357 : Ref sig .tc := ⟨.hbm, 523, rfl⟩
abbrev main_call56_v0 : Ref sig .tc := ⟨.hbm, 524, rfl⟩
abbrev main_v358 : Ref sig .tc := ⟨.hbm, 525, rfl⟩
abbrev main_c_41 : Ref sig .tc := ⟨.hbm, 526, rfl⟩
abbrev main_v359 : Ref sig .tc := ⟨.hbm, 527, rfl⟩
abbrev main_v360 : Ref sig .tc := ⟨.hbm, 528, rfl⟩
abbrev main_c_42 : Ref sig .tc := ⟨.hbm, 529, rfl⟩
abbrev main_v361 : Ref sig .tc := ⟨.hbm, 530, rfl⟩
abbrev main_v362 : Ref sig .tc := ⟨.hbm, 531, rfl⟩
abbrev main_c_43 : Ref sig .tc := ⟨.hbm, 532, rfl⟩
abbrev main_v363 : Ref sig .tc := ⟨.hbm, 533, rfl⟩
abbrev main_v364 : Ref sig .tc := ⟨.hbm, 534, rfl⟩
abbrev main_v365 : Ref sig .tc := ⟨.hbm, 535, rfl⟩
abbrev main_call57_v0 : Ref sig .tc := ⟨.hbm, 536, rfl⟩
abbrev main_v366 : Ref sig .tc := ⟨.hbm, 537, rfl⟩
abbrev main_call58_v0 : Ref sig .tc := ⟨.hbm, 538, rfl⟩
abbrev main_v367 : Ref sig .tc := ⟨.hbm, 539, rfl⟩
abbrev main_c_44 : Ref sig .tc := ⟨.hbm, 540, rfl⟩
abbrev main_v368 : Ref sig .tc := ⟨.hbm, 541, rfl⟩
abbrev main_v369 : Ref sig .tc := ⟨.hbm, 542, rfl⟩
abbrev main_c_45 : Ref sig .tc := ⟨.hbm, 543, rfl⟩
abbrev main_v370 : Ref sig .tc := ⟨.hbm, 544, rfl⟩
abbrev main_v371 : Ref sig .tc := ⟨.hbm, 545, rfl⟩
abbrev main_c_46 : Ref sig .tc := ⟨.hbm, 546, rfl⟩
abbrev main_v372 : Ref sig .tc := ⟨.hbm, 547, rfl⟩
abbrev main_v373 : Ref sig .tc := ⟨.hbm, 548, rfl⟩
abbrev main_v374 : Ref sig .tc := ⟨.hbm, 549, rfl⟩
abbrev main_call59_v0 : Ref sig .tc := ⟨.hbm, 550, rfl⟩
abbrev main_v375 : Ref sig .tc := ⟨.hbm, 551, rfl⟩
abbrev main_v376 : Ref sig .tc := ⟨.hbm, 552, rfl⟩
abbrev main_v377 : Ref sig .tc := ⟨.hbm, 553, rfl⟩
abbrev main_v378 : Ref sig .tc := ⟨.hbm, 554, rfl⟩
abbrev main_v379 : Ref sig .tc := ⟨.hbm, 555, rfl⟩
abbrev main_v380 : Ref sig .tc := ⟨.hbm, 556, rfl⟩
abbrev main_v381 : Ref sig .tc := ⟨.hbm, 557, rfl⟩
abbrev main_v382 : Ref sig .tc := ⟨.hbm, 558, rfl⟩
abbrev main_v383 : Ref sig .tc := ⟨.hbm, 559, rfl⟩
abbrev main_v384 : Ref sig .tc := ⟨.hbm, 560, rfl⟩
abbrev main_v385 : Ref sig .tc := ⟨.hbm, 561, rfl⟩
abbrev main_v386 : Ref sig .tc := ⟨.hbm, 562, rfl⟩
abbrev main_v387 : Ref sig .tc := ⟨.hbm, 563, rfl⟩
abbrev main_v388 : Ref sig .tc := ⟨.hbm, 564, rfl⟩
abbrev main_v389 : Ref sig .tc := ⟨.hbm, 565, rfl⟩
abbrev main_v390 : Ref sig .tc := ⟨.hbm, 566, rfl⟩
abbrev main_v391 : Ref sig .tc := ⟨.hbm, 567, rfl⟩
abbrev main_v392 : Ref sig .tc := ⟨.hbm, 568, rfl⟩
abbrev main_v393 : Ref sig .tc := ⟨.hbm, 569, rfl⟩
abbrev main_v394 : Ref sig .tc := ⟨.hbm, 570, rfl⟩
abbrev main_v395 : Ref sig .tc := ⟨.hbm, 571, rfl⟩
abbrev main_v396 : Ref sig .tc := ⟨.hbm, 572, rfl⟩
abbrev main_v397 : Ref sig .tc := ⟨.hbm, 573, rfl⟩
abbrev main_v398 : Ref sig .tc := ⟨.hbm, 574, rfl⟩
abbrev main_v399 : Ref sig .tc := ⟨.hbm, 575, rfl⟩
abbrev main_v400 : Ref sig .tc := ⟨.hbm, 576, rfl⟩
abbrev main_v401 : Ref sig .tc := ⟨.hbm, 577, rfl⟩
abbrev main_v402 : Ref sig .tc := ⟨.hbm, 578, rfl⟩
abbrev main_v403 : Ref sig .tc := ⟨.hbm, 579, rfl⟩
abbrev main_v404 : Ref sig .tc := ⟨.hbm, 580, rfl⟩
abbrev main_v405 : Ref sig .tc := ⟨.hbm, 581, rfl⟩
abbrev main_v406 : Ref sig .tc := ⟨.hbm, 582, rfl⟩
abbrev main_v407 : Ref sig .tc := ⟨.hbm, 583, rfl⟩
abbrev main_v408 : Ref sig .tc := ⟨.hbm, 584, rfl⟩
abbrev main_v409 : Ref sig .tc := ⟨.hbm, 585, rfl⟩
abbrev main_v410 : Ref sig .tc := ⟨.hbm, 586, rfl⟩
abbrev main_v411 : Ref sig .tc := ⟨.hbm, 587, rfl⟩
abbrev main_v412 : Ref sig .tc := ⟨.hbm, 588, rfl⟩
abbrev main_v413 : Ref sig .tc := ⟨.hbm, 589, rfl⟩
abbrev main_v414 : Ref sig .tc := ⟨.hbm, 590, rfl⟩
abbrev main_v415 : Ref sig .tc := ⟨.hbm, 591, rfl⟩
abbrev main_v416 : Ref sig .tc := ⟨.hbm, 592, rfl⟩
abbrev main_v417 : Ref sig .tc := ⟨.hbm, 593, rfl⟩
abbrev main_v418 : Ref sig .tc := ⟨.hbm, 594, rfl⟩
abbrev main_v419 : Ref sig .tc := ⟨.hbm, 595, rfl⟩
abbrev main_v420 : Ref sig .tc := ⟨.hbm, 596, rfl⟩
abbrev main_v421 : Ref sig .tc := ⟨.hbm, 597, rfl⟩
abbrev main_v422 : Ref sig .tc := ⟨.hbm, 598, rfl⟩
abbrev main_v423 : Ref sig .tc := ⟨.hbm, 599, rfl⟩
abbrev main_v424 : Ref sig .tc := ⟨.hbm, 600, rfl⟩
abbrev main_c_47 : Ref sig .tc := ⟨.hbm, 601, rfl⟩
abbrev main_v425 : Ref sig .tc := ⟨.hbm, 602, rfl⟩
abbrev main_v426 : Ref sig .tc := ⟨.hbm, 603, rfl⟩
abbrev main_c_48 : Ref sig .tc := ⟨.hbm, 604, rfl⟩
abbrev main_v427 : Ref sig .tc := ⟨.hbm, 605, rfl⟩
abbrev main_v428 : Ref sig .tc := ⟨.hbm, 606, rfl⟩
abbrev main_c_49 : Ref sig .tc := ⟨.hbm, 607, rfl⟩
abbrev main_v429 : Ref sig .tc := ⟨.hbm, 608, rfl⟩
abbrev main_v430 : Ref sig .tc := ⟨.hbm, 609, rfl⟩
abbrev main_v431 : Ref sig .tc := ⟨.hbm, 610, rfl⟩
abbrev main_call60_v0 : Ref sig .tc := ⟨.hbm, 611, rfl⟩
abbrev main_call60_v1 : Ref sig .tc := ⟨.hbm, 612, rfl⟩
abbrev main_call60_v2 : Ref sig .tc := ⟨.hbm, 613, rfl⟩
abbrev main_v432 : Ref sig .tc := ⟨.hbm, 614, rfl⟩
abbrev main_call61_v0 : Ref sig .tc := ⟨.hbm, 615, rfl⟩
abbrev main_call61_v1 : Ref sig .tc := ⟨.hbm, 616, rfl⟩
abbrev main_call61_v2 : Ref sig .tc := ⟨.hbm, 617, rfl⟩
abbrev main_v433 : Ref sig .tc := ⟨.hbm, 618, rfl⟩
abbrev main_call62_v0 : Ref sig .tc := ⟨.hbm, 619, rfl⟩
abbrev main_call62_v1 : Ref sig .tc := ⟨.hbm, 620, rfl⟩
abbrev main_call62_v2 : Ref sig .tc := ⟨.hbm, 621, rfl⟩
abbrev main_v434 : Ref sig .tc := ⟨.hbm, 622, rfl⟩
abbrev main_call63_v0 : Ref sig .tc := ⟨.hbm, 623, rfl⟩
abbrev main_call63_v1 : Ref sig .tc := ⟨.hbm, 624, rfl⟩
abbrev main_call63_v2 : Ref sig .tc := ⟨.hbm, 625, rfl⟩
abbrev main_v435 : Ref sig .tc := ⟨.hbm, 626, rfl⟩
abbrev main_call64_v0 : Ref sig .tc := ⟨.hbm, 627, rfl⟩
abbrev main_call64_v1 : Ref sig .tc := ⟨.hbm, 628, rfl⟩
abbrev main_call64_v2 : Ref sig .tc := ⟨.hbm, 629, rfl⟩
abbrev main_v436 : Ref sig .tc := ⟨.hbm, 630, rfl⟩
abbrev main_call65_v0 : Ref sig .tc := ⟨.hbm, 631, rfl⟩
abbrev main_call65_v1 : Ref sig .tc := ⟨.hbm, 632, rfl⟩
abbrev main_call65_v2 : Ref sig .tc := ⟨.hbm, 633, rfl⟩
abbrev main_v437 : Ref sig .tc := ⟨.hbm, 634, rfl⟩
abbrev main_call66_v0 : Ref sig .tc := ⟨.hbm, 635, rfl⟩
abbrev main_call66_v1 : Ref sig .tc := ⟨.hbm, 636, rfl⟩
abbrev main_call66_v2 : Ref sig .tc := ⟨.hbm, 637, rfl⟩
abbrev main_v438 : Ref sig .tc := ⟨.hbm, 638, rfl⟩
abbrev main_call67_v0 : Ref sig .tc := ⟨.hbm, 639, rfl⟩
abbrev main_call67_v1 : Ref sig .tc := ⟨.hbm, 640, rfl⟩
abbrev main_call67_v2 : Ref sig .tc := ⟨.hbm, 641, rfl⟩
abbrev main_v439 : Ref sig .tc := ⟨.hbm, 642, rfl⟩
abbrev main_c_50 : Ref sig .tc := ⟨.hbm, 643, rfl⟩
abbrev main_v440 : Ref sig .tc := ⟨.hbm, 644, rfl⟩
abbrev main_v441 : Ref sig .tc := ⟨.hbm, 645, rfl⟩
abbrev main_c_51 : Ref sig .tc := ⟨.hbm, 646, rfl⟩
abbrev main_v442 : Ref sig .tc := ⟨.hbm, 647, rfl⟩
abbrev main_v443 : Ref sig .tc := ⟨.hbm, 648, rfl⟩
abbrev main_c_52 : Ref sig .tc := ⟨.hbm, 649, rfl⟩
abbrev main_v444 : Ref sig .tc := ⟨.hbm, 650, rfl⟩
abbrev main_v445 : Ref sig .tc := ⟨.hbm, 651, rfl⟩
abbrev main_v446 : Ref sig .tc := ⟨.hbm, 652, rfl⟩
abbrev main_call68_v0 : Ref sig .tc := ⟨.hbm, 653, rfl⟩
abbrev main_v447 : Ref sig .tc := ⟨.hbm, 654, rfl⟩
abbrev main_call69_v0 : Ref sig .tc := ⟨.hbm, 655, rfl⟩
abbrev main_v448 : Ref sig .tc := ⟨.hbm, 656, rfl⟩
abbrev main_call70_v0 : Ref sig .tc := ⟨.hbm, 657, rfl⟩
abbrev main_v449 : Ref sig .tc := ⟨.hbm, 658, rfl⟩
abbrev main_call71_v0 : Ref sig .tc := ⟨.hbm, 659, rfl⟩
abbrev main_v450 : Ref sig .tc := ⟨.hbm, 660, rfl⟩
abbrev main_c_53 : Ref sig .tc := ⟨.hbm, 661, rfl⟩
abbrev main_v451 : Ref sig .tc := ⟨.hbm, 662, rfl⟩
abbrev main_v452 : Ref sig .tc := ⟨.hbm, 663, rfl⟩
abbrev main_c_54 : Ref sig .tc := ⟨.hbm, 664, rfl⟩
abbrev main_v453 : Ref sig .tc := ⟨.hbm, 665, rfl⟩
abbrev main_v454 : Ref sig .tc := ⟨.hbm, 666, rfl⟩
abbrev main_c_55 : Ref sig .tc := ⟨.hbm, 667, rfl⟩
abbrev main_v455 : Ref sig .tc := ⟨.hbm, 668, rfl⟩
abbrev main_v456 : Ref sig .tc := ⟨.hbm, 669, rfl⟩
abbrev main_v457 : Ref sig .tc := ⟨.hbm, 670, rfl⟩
abbrev main_call72_v0 : Ref sig .tc := ⟨.hbm, 671, rfl⟩
abbrev main_v458 : Ref sig .tc := ⟨.hbm, 672, rfl⟩
abbrev main_call73_v0 : Ref sig .tc := ⟨.hbm, 673, rfl⟩
abbrev main_v459 : Ref sig .tc := ⟨.hbm, 674, rfl⟩
abbrev main_c_56 : Ref sig .tc := ⟨.hbm, 675, rfl⟩
abbrev main_v460 : Ref sig .tc := ⟨.hbm, 676, rfl⟩
abbrev main_v461 : Ref sig .tc := ⟨.hbm, 677, rfl⟩
abbrev main_c_57 : Ref sig .tc := ⟨.hbm, 678, rfl⟩
abbrev main_v462 : Ref sig .tc := ⟨.hbm, 679, rfl⟩
abbrev main_v463 : Ref sig .tc := ⟨.hbm, 680, rfl⟩
abbrev main_c_58 : Ref sig .tc := ⟨.hbm, 681, rfl⟩
abbrev main_v464 : Ref sig .tc := ⟨.hbm, 682, rfl⟩
abbrev main_v465 : Ref sig .tc := ⟨.hbm, 683, rfl⟩
abbrev main_v466 : Ref sig .tc := ⟨.hbm, 684, rfl⟩
abbrev main_call74_v0 : Ref sig .tc := ⟨.hbm, 685, rfl⟩
abbrev main_v467 : Ref sig .tc := ⟨.hbm, 686, rfl⟩
abbrev main_v468 : Ref sig .tc := ⟨.hbm, 687, rfl⟩
abbrev main_v469 : Ref sig .tc := ⟨.hbm, 688, rfl⟩
abbrev main_v470 : Ref sig .tc := ⟨.hbm, 689, rfl⟩
abbrev main_v471 : Ref sig .tc := ⟨.hbm, 690, rfl⟩
abbrev main_v472 : Ref sig .tc := ⟨.hbm, 691, rfl⟩
abbrev main_v473 : Ref sig .tc := ⟨.hbm, 692, rfl⟩
abbrev main_v474 : Ref sig .tc := ⟨.hbm, 693, rfl⟩
abbrev main_v475 : Ref sig .tc := ⟨.hbm, 694, rfl⟩
abbrev main_v476 : Ref sig .tc := ⟨.hbm, 695, rfl⟩
abbrev main_v477 : Ref sig .tc := ⟨.hbm, 696, rfl⟩
abbrev main_v478 : Ref sig .tc := ⟨.hbm, 697, rfl⟩
abbrev main_v479 : Ref sig .tc := ⟨.hbm, 698, rfl⟩
abbrev main_v480 : Ref sig .tc := ⟨.hbm, 699, rfl⟩
abbrev main_v481 : Ref sig .tc := ⟨.hbm, 700, rfl⟩
abbrev main_v482 : Ref sig .tc := ⟨.hbm, 701, rfl⟩
abbrev main_v483 : Ref sig .tc := ⟨.hbm, 702, rfl⟩
abbrev main_v484 : Ref sig .tc := ⟨.hbm, 703, rfl⟩
abbrev main_v485 : Ref sig .tc := ⟨.hbm, 704, rfl⟩
abbrev main_v486 : Ref sig .tc := ⟨.hbm, 705, rfl⟩
abbrev main_v487 : Ref sig .tc := ⟨.hbm, 706, rfl⟩
abbrev main_v488 : Ref sig .tc := ⟨.hbm, 707, rfl⟩
abbrev main_v489 : Ref sig .tc := ⟨.hbm, 708, rfl⟩
abbrev main_v490 : Ref sig .tc := ⟨.hbm, 709, rfl⟩
abbrev main_v491 : Ref sig .tc := ⟨.hbm, 710, rfl⟩
abbrev main_v492 : Ref sig .tc := ⟨.hbm, 711, rfl⟩
abbrev main_v493 : Ref sig .tc := ⟨.hbm, 712, rfl⟩
abbrev main_v494 : Ref sig .tc := ⟨.hbm, 713, rfl⟩
abbrev main_v495 : Ref sig .tc := ⟨.hbm, 714, rfl⟩
abbrev main_v496 : Ref sig .tc := ⟨.hbm, 715, rfl⟩
abbrev main_v497 : Ref sig .tc := ⟨.hbm, 716, rfl⟩
abbrev main_v498 : Ref sig .tc := ⟨.hbm, 717, rfl⟩
abbrev main_v499 : Ref sig .tc := ⟨.hbm, 718, rfl⟩
abbrev main_v500 : Ref sig .tc := ⟨.hbm, 719, rfl⟩
abbrev main_v501 : Ref sig .tc := ⟨.hbm, 720, rfl⟩
abbrev main_v502 : Ref sig .tc := ⟨.hbm, 721, rfl⟩
abbrev main_v503 : Ref sig .tc := ⟨.hbm, 722, rfl⟩
abbrev main_v504 : Ref sig .tc := ⟨.hbm, 723, rfl⟩
abbrev main_v505 : Ref sig .tc := ⟨.hbm, 724, rfl⟩
abbrev main_v506 : Ref sig .tc := ⟨.hbm, 725, rfl⟩
abbrev main_v507 : Ref sig .tc := ⟨.hbm, 726, rfl⟩
abbrev main_v508 : Ref sig .tc := ⟨.hbm, 727, rfl⟩
abbrev main_v509 : Ref sig .tc := ⟨.hbm, 728, rfl⟩
abbrev main_v510 : Ref sig .tc := ⟨.hbm, 729, rfl⟩
abbrev main_v511 : Ref sig .tc := ⟨.hbm, 730, rfl⟩
abbrev main_v512 : Ref sig .tc := ⟨.hbm, 731, rfl⟩
abbrev main_v513 : Ref sig .tc := ⟨.hbm, 732, rfl⟩
abbrev main_v514 : Ref sig .tc := ⟨.hbm, 733, rfl⟩
abbrev main_v515 : Ref sig .tc := ⟨.hbm, 734, rfl⟩
abbrev main_c_59 : Ref sig .tc := ⟨.hbm, 735, rfl⟩
abbrev main_v516 : Ref sig .tc := ⟨.hbm, 736, rfl⟩
abbrev main_v517 : Ref sig .tc := ⟨.hbm, 737, rfl⟩
abbrev main_c_60 : Ref sig .tc := ⟨.hbm, 738, rfl⟩
abbrev main_v518 : Ref sig .tc := ⟨.hbm, 739, rfl⟩
abbrev main_v519 : Ref sig .tc := ⟨.hbm, 740, rfl⟩
abbrev main_c_61 : Ref sig .tc := ⟨.hbm, 741, rfl⟩
abbrev main_v520 : Ref sig .tc := ⟨.hbm, 742, rfl⟩
abbrev main_v521 : Ref sig .tc := ⟨.hbm, 743, rfl⟩
abbrev main_v522 : Ref sig .tc := ⟨.hbm, 744, rfl⟩
abbrev main_call75_v0 : Ref sig .tc := ⟨.hbm, 745, rfl⟩
abbrev main_call75_v1 : Ref sig .tc := ⟨.hbm, 746, rfl⟩
abbrev main_call75_v2 : Ref sig .tc := ⟨.hbm, 747, rfl⟩
abbrev main_v523 : Ref sig .tc := ⟨.hbm, 748, rfl⟩
abbrev main_call76_v0 : Ref sig .tc := ⟨.hbm, 749, rfl⟩
abbrev main_call76_v1 : Ref sig .tc := ⟨.hbm, 750, rfl⟩
abbrev main_call76_v2 : Ref sig .tc := ⟨.hbm, 751, rfl⟩
abbrev main_v524 : Ref sig .tc := ⟨.hbm, 752, rfl⟩
abbrev main_call77_v0 : Ref sig .tc := ⟨.hbm, 753, rfl⟩
abbrev main_call77_v1 : Ref sig .tc := ⟨.hbm, 754, rfl⟩
abbrev main_call77_v2 : Ref sig .tc := ⟨.hbm, 755, rfl⟩
abbrev main_v525 : Ref sig .tc := ⟨.hbm, 756, rfl⟩
abbrev main_call78_v0 : Ref sig .tc := ⟨.hbm, 757, rfl⟩
abbrev main_call78_v1 : Ref sig .tc := ⟨.hbm, 758, rfl⟩
abbrev main_call78_v2 : Ref sig .tc := ⟨.hbm, 759, rfl⟩
abbrev main_v526 : Ref sig .tc := ⟨.hbm, 760, rfl⟩
abbrev main_call79_v0 : Ref sig .tc := ⟨.hbm, 761, rfl⟩
abbrev main_call79_v1 : Ref sig .tc := ⟨.hbm, 762, rfl⟩
abbrev main_call79_v2 : Ref sig .tc := ⟨.hbm, 763, rfl⟩
abbrev main_v527 : Ref sig .tc := ⟨.hbm, 764, rfl⟩
abbrev main_call80_v0 : Ref sig .tc := ⟨.hbm, 765, rfl⟩
abbrev main_call80_v1 : Ref sig .tc := ⟨.hbm, 766, rfl⟩
abbrev main_call80_v2 : Ref sig .tc := ⟨.hbm, 767, rfl⟩
abbrev main_v528 : Ref sig .tc := ⟨.hbm, 768, rfl⟩
abbrev main_call81_v0 : Ref sig .tc := ⟨.hbm, 769, rfl⟩
abbrev main_call81_v1 : Ref sig .tc := ⟨.hbm, 770, rfl⟩
abbrev main_call81_v2 : Ref sig .tc := ⟨.hbm, 771, rfl⟩
abbrev main_v529 : Ref sig .tc := ⟨.hbm, 772, rfl⟩
abbrev main_call82_v0 : Ref sig .tc := ⟨.hbm, 773, rfl⟩
abbrev main_call82_v1 : Ref sig .tc := ⟨.hbm, 774, rfl⟩
abbrev main_call82_v2 : Ref sig .tc := ⟨.hbm, 775, rfl⟩
abbrev main_v530 : Ref sig .tc := ⟨.hbm, 776, rfl⟩
abbrev main_c_62 : Ref sig .tc := ⟨.hbm, 777, rfl⟩
abbrev main_v531 : Ref sig .tc := ⟨.hbm, 778, rfl⟩
abbrev main_v532 : Ref sig .tc := ⟨.hbm, 779, rfl⟩
abbrev main_c_63 : Ref sig .tc := ⟨.hbm, 780, rfl⟩
abbrev main_v533 : Ref sig .tc := ⟨.hbm, 781, rfl⟩
abbrev main_v534 : Ref sig .tc := ⟨.hbm, 782, rfl⟩
abbrev main_c_64 : Ref sig .tc := ⟨.hbm, 783, rfl⟩
abbrev main_v535 : Ref sig .tc := ⟨.hbm, 784, rfl⟩
abbrev main_v536 : Ref sig .tc := ⟨.hbm, 785, rfl⟩
abbrev main_v537 : Ref sig .tc := ⟨.hbm, 786, rfl⟩
abbrev main_call83_v0 : Ref sig .tc := ⟨.hbm, 787, rfl⟩
abbrev main_v538 : Ref sig .tc := ⟨.hbm, 788, rfl⟩
abbrev main_call84_v0 : Ref sig .tc := ⟨.hbm, 789, rfl⟩
abbrev main_v539 : Ref sig .tc := ⟨.hbm, 790, rfl⟩
abbrev main_call85_v0 : Ref sig .tc := ⟨.hbm, 791, rfl⟩
abbrev main_v540 : Ref sig .tc := ⟨.hbm, 792, rfl⟩
abbrev main_call86_v0 : Ref sig .tc := ⟨.hbm, 793, rfl⟩
abbrev main_v541 : Ref sig .tc := ⟨.hbm, 794, rfl⟩
abbrev main_c_65 : Ref sig .tc := ⟨.hbm, 795, rfl⟩
abbrev main_v542 : Ref sig .tc := ⟨.hbm, 796, rfl⟩
abbrev main_v543 : Ref sig .tc := ⟨.hbm, 797, rfl⟩
abbrev main_c_66 : Ref sig .tc := ⟨.hbm, 798, rfl⟩
abbrev main_v544 : Ref sig .tc := ⟨.hbm, 799, rfl⟩
abbrev main_v545 : Ref sig .tc := ⟨.hbm, 800, rfl⟩
abbrev main_c_67 : Ref sig .tc := ⟨.hbm, 801, rfl⟩
abbrev main_v546 : Ref sig .tc := ⟨.hbm, 802, rfl⟩
abbrev main_v547 : Ref sig .tc := ⟨.hbm, 803, rfl⟩
abbrev main_v548 : Ref sig .tc := ⟨.hbm, 804, rfl⟩
abbrev main_call87_v0 : Ref sig .tc := ⟨.hbm, 805, rfl⟩
abbrev main_v549 : Ref sig .tc := ⟨.hbm, 806, rfl⟩
abbrev main_call88_v0 : Ref sig .tc := ⟨.hbm, 807, rfl⟩
abbrev main_v550 : Ref sig .tc := ⟨.hbm, 808, rfl⟩
abbrev main_c_68 : Ref sig .tc := ⟨.hbm, 809, rfl⟩
abbrev main_v551 : Ref sig .tc := ⟨.hbm, 810, rfl⟩
abbrev main_v552 : Ref sig .tc := ⟨.hbm, 811, rfl⟩
abbrev main_c_69 : Ref sig .tc := ⟨.hbm, 812, rfl⟩
abbrev main_v553 : Ref sig .tc := ⟨.hbm, 813, rfl⟩
abbrev main_v554 : Ref sig .tc := ⟨.hbm, 814, rfl⟩
abbrev main_c_70 : Ref sig .tc := ⟨.hbm, 815, rfl⟩
abbrev main_v555 : Ref sig .tc := ⟨.hbm, 816, rfl⟩
abbrev main_v556 : Ref sig .tc := ⟨.hbm, 817, rfl⟩
abbrev main_v557 : Ref sig .tc := ⟨.hbm, 818, rfl⟩
abbrev main_call89_v0 : Ref sig .tc := ⟨.hbm, 819, rfl⟩
abbrev main_v558 : Ref sig .tc := ⟨.hbm, 820, rfl⟩
abbrev main_v559 : Ref sig .tc := ⟨.hbm, 821, rfl⟩
abbrev main_v560 : Ref sig .tc := ⟨.hbm, 822, rfl⟩
abbrev main_v561 : Ref sig .tc := ⟨.hbm, 823, rfl⟩
abbrev main_v562 : Ref sig .tc := ⟨.hbm, 824, rfl⟩
abbrev main_v563 : Ref sig .tc := ⟨.hbm, 825, rfl⟩
abbrev main_v564 : Ref sig .tc := ⟨.hbm, 826, rfl⟩
abbrev main_v565 : Ref sig .tc := ⟨.hbm, 827, rfl⟩
abbrev main_v566 : Ref sig .tc := ⟨.hbm, 828, rfl⟩
abbrev main_v567 : Ref sig .tc := ⟨.hbm, 829, rfl⟩
abbrev main_v568 : Ref sig .tc := ⟨.hbm, 830, rfl⟩
abbrev main_v569 : Ref sig .tc := ⟨.hbm, 831, rfl⟩
abbrev main_v570 : Ref sig .tc := ⟨.hbm, 832, rfl⟩
abbrev main_v571 : Ref sig .tc := ⟨.hbm, 833, rfl⟩
abbrev main_v572 : Ref sig .tc := ⟨.hbm, 834, rfl⟩
abbrev main_v573 : Ref sig .tc := ⟨.hbm, 835, rfl⟩
abbrev main_v574 : Ref sig .tc := ⟨.hbm, 836, rfl⟩
abbrev main_v575 : Ref sig .tc := ⟨.hbm, 837, rfl⟩
abbrev main_v576 : Ref sig .tc := ⟨.hbm, 838, rfl⟩
abbrev main_v577 : Ref sig .tc := ⟨.hbm, 839, rfl⟩
abbrev main_v578 : Ref sig .tc := ⟨.hbm, 840, rfl⟩
abbrev main_v579 : Ref sig .tc := ⟨.hbm, 841, rfl⟩
abbrev main_v580 : Ref sig .tc := ⟨.hbm, 842, rfl⟩
abbrev main_v581 : Ref sig .tc := ⟨.hbm, 843, rfl⟩
abbrev main_v582 : Ref sig .tc := ⟨.hbm, 844, rfl⟩
abbrev main_v583 : Ref sig .tc := ⟨.hbm, 845, rfl⟩
abbrev main_v584 : Ref sig .tc := ⟨.hbm, 846, rfl⟩
abbrev main_v585 : Ref sig .tc := ⟨.hbm, 847, rfl⟩
abbrev main_v586 : Ref sig .tc := ⟨.hbm, 848, rfl⟩
abbrev main_v587 : Ref sig .tc := ⟨.hbm, 849, rfl⟩
abbrev main_v588 : Ref sig .tc := ⟨.hbm, 850, rfl⟩
abbrev main_v589 : Ref sig .tc := ⟨.hbm, 851, rfl⟩
abbrev main_v590 : Ref sig .tc := ⟨.hbm, 852, rfl⟩
abbrev main_v591 : Ref sig .tc := ⟨.hbm, 853, rfl⟩
abbrev main_v592 : Ref sig .tc := ⟨.hbm, 854, rfl⟩
abbrev main_v593 : Ref sig .tc := ⟨.hbm, 855, rfl⟩
abbrev main_v594 : Ref sig .tc := ⟨.hbm, 856, rfl⟩
abbrev main_v595 : Ref sig .tc := ⟨.hbm, 857, rfl⟩
abbrev main_v596 : Ref sig .tc := ⟨.hbm, 858, rfl⟩
abbrev main_v597 : Ref sig .tc := ⟨.hbm, 859, rfl⟩
abbrev main_v598 : Ref sig .tc := ⟨.hbm, 860, rfl⟩
abbrev main_v599 : Ref sig .tc := ⟨.hbm, 861, rfl⟩
abbrev main_v600 : Ref sig .tc := ⟨.hbm, 862, rfl⟩
abbrev main_v601 : Ref sig .tc := ⟨.hbm, 863, rfl⟩
abbrev main_v602 : Ref sig .tc := ⟨.hbm, 864, rfl⟩
abbrev main_v603 : Ref sig .tc := ⟨.hbm, 865, rfl⟩
abbrev main_v604 : Ref sig .tc := ⟨.hbm, 866, rfl⟩
abbrev main_v605 : Ref sig .tc := ⟨.hbm, 867, rfl⟩
abbrev main_v606 : Ref sig .tc := ⟨.hbm, 868, rfl⟩
abbrev main_v607 : Ref sig .tc := ⟨.hbm, 869, rfl⟩
abbrev main_c_71 : Ref sig .tc := ⟨.hbm, 870, rfl⟩
abbrev main_v608 : Ref sig .tc := ⟨.hbm, 871, rfl⟩
abbrev main_v609 : Ref sig .tc := ⟨.hbm, 872, rfl⟩
abbrev main_c_72 : Ref sig .tc := ⟨.hbm, 873, rfl⟩
abbrev main_v610 : Ref sig .tc := ⟨.hbm, 874, rfl⟩
abbrev main_v611 : Ref sig .tc := ⟨.hbm, 875, rfl⟩
abbrev main_c_73 : Ref sig .tc := ⟨.hbm, 876, rfl⟩
abbrev main_v612 : Ref sig .tc := ⟨.hbm, 877, rfl⟩
abbrev main_v613 : Ref sig .tc := ⟨.hbm, 878, rfl⟩
abbrev main_v614 : Ref sig .tc := ⟨.hbm, 879, rfl⟩
abbrev main_call90_v0 : Ref sig .tc := ⟨.hbm, 880, rfl⟩
abbrev main_call90_v1 : Ref sig .tc := ⟨.hbm, 881, rfl⟩
abbrev main_call90_v2 : Ref sig .tc := ⟨.hbm, 882, rfl⟩
abbrev main_v615 : Ref sig .tc := ⟨.hbm, 883, rfl⟩
abbrev main_call91_v0 : Ref sig .tc := ⟨.hbm, 884, rfl⟩
abbrev main_call91_v1 : Ref sig .tc := ⟨.hbm, 885, rfl⟩
abbrev main_call91_v2 : Ref sig .tc := ⟨.hbm, 886, rfl⟩
abbrev main_v616 : Ref sig .tc := ⟨.hbm, 887, rfl⟩
abbrev main_call92_v0 : Ref sig .tc := ⟨.hbm, 888, rfl⟩
abbrev main_call92_v1 : Ref sig .tc := ⟨.hbm, 889, rfl⟩
abbrev main_call92_v2 : Ref sig .tc := ⟨.hbm, 890, rfl⟩
abbrev main_v617 : Ref sig .tc := ⟨.hbm, 891, rfl⟩
abbrev main_call93_v0 : Ref sig .tc := ⟨.hbm, 892, rfl⟩
abbrev main_call93_v1 : Ref sig .tc := ⟨.hbm, 893, rfl⟩
abbrev main_call93_v2 : Ref sig .tc := ⟨.hbm, 894, rfl⟩
abbrev main_v618 : Ref sig .tc := ⟨.hbm, 895, rfl⟩
abbrev main_call94_v0 : Ref sig .tc := ⟨.hbm, 896, rfl⟩
abbrev main_call94_v1 : Ref sig .tc := ⟨.hbm, 897, rfl⟩
abbrev main_call94_v2 : Ref sig .tc := ⟨.hbm, 898, rfl⟩
abbrev main_v619 : Ref sig .tc := ⟨.hbm, 899, rfl⟩
abbrev main_call95_v0 : Ref sig .tc := ⟨.hbm, 900, rfl⟩
abbrev main_call95_v1 : Ref sig .tc := ⟨.hbm, 901, rfl⟩
abbrev main_call95_v2 : Ref sig .tc := ⟨.hbm, 902, rfl⟩
abbrev main_v620 : Ref sig .tc := ⟨.hbm, 903, rfl⟩
abbrev main_call96_v0 : Ref sig .tc := ⟨.hbm, 904, rfl⟩
abbrev main_call96_v1 : Ref sig .tc := ⟨.hbm, 905, rfl⟩
abbrev main_call96_v2 : Ref sig .tc := ⟨.hbm, 906, rfl⟩
abbrev main_v621 : Ref sig .tc := ⟨.hbm, 907, rfl⟩
abbrev main_call97_v0 : Ref sig .tc := ⟨.hbm, 908, rfl⟩
abbrev main_call97_v1 : Ref sig .tc := ⟨.hbm, 909, rfl⟩
abbrev main_call97_v2 : Ref sig .tc := ⟨.hbm, 910, rfl⟩
abbrev main_v622 : Ref sig .tc := ⟨.hbm, 911, rfl⟩
abbrev main_c_74 : Ref sig .tc := ⟨.hbm, 912, rfl⟩
abbrev main_v623 : Ref sig .tc := ⟨.hbm, 913, rfl⟩
abbrev main_v624 : Ref sig .tc := ⟨.hbm, 914, rfl⟩
abbrev main_c_75 : Ref sig .tc := ⟨.hbm, 915, rfl⟩
abbrev main_v625 : Ref sig .tc := ⟨.hbm, 916, rfl⟩
abbrev main_v626 : Ref sig .tc := ⟨.hbm, 917, rfl⟩
abbrev main_c_76 : Ref sig .tc := ⟨.hbm, 918, rfl⟩
abbrev main_v627 : Ref sig .tc := ⟨.hbm, 919, rfl⟩
abbrev main_v628 : Ref sig .tc := ⟨.hbm, 920, rfl⟩
abbrev main_v629 : Ref sig .tc := ⟨.hbm, 921, rfl⟩
abbrev main_call98_v0 : Ref sig .tc := ⟨.hbm, 922, rfl⟩
abbrev main_v630 : Ref sig .tc := ⟨.hbm, 923, rfl⟩
abbrev main_call99_v0 : Ref sig .tc := ⟨.hbm, 924, rfl⟩
abbrev main_v631 : Ref sig .tc := ⟨.hbm, 925, rfl⟩
abbrev main_call100_v0 : Ref sig .tc := ⟨.hbm, 926, rfl⟩
abbrev main_v632 : Ref sig .tc := ⟨.hbm, 927, rfl⟩
abbrev main_call101_v0 : Ref sig .tc := ⟨.hbm, 928, rfl⟩
abbrev main_v633 : Ref sig .tc := ⟨.hbm, 929, rfl⟩
abbrev main_c_77 : Ref sig .tc := ⟨.hbm, 930, rfl⟩
abbrev main_v634 : Ref sig .tc := ⟨.hbm, 931, rfl⟩
abbrev main_v635 : Ref sig .tc := ⟨.hbm, 932, rfl⟩
abbrev main_c_78 : Ref sig .tc := ⟨.hbm, 933, rfl⟩
abbrev main_v636 : Ref sig .tc := ⟨.hbm, 934, rfl⟩
abbrev main_v637 : Ref sig .tc := ⟨.hbm, 935, rfl⟩
abbrev main_c_79 : Ref sig .tc := ⟨.hbm, 936, rfl⟩
abbrev main_v638 : Ref sig .tc := ⟨.hbm, 937, rfl⟩
abbrev main_v639 : Ref sig .tc := ⟨.hbm, 938, rfl⟩
abbrev main_v640 : Ref sig .tc := ⟨.hbm, 939, rfl⟩
abbrev main_call102_v0 : Ref sig .tc := ⟨.hbm, 940, rfl⟩
abbrev main_v641 : Ref sig .tc := ⟨.hbm, 941, rfl⟩
abbrev main_call103_v0 : Ref sig .tc := ⟨.hbm, 942, rfl⟩
abbrev main_v642 : Ref sig .tc := ⟨.hbm, 943, rfl⟩
abbrev main_c_80 : Ref sig .tc := ⟨.hbm, 944, rfl⟩
abbrev main_v643 : Ref sig .tc := ⟨.hbm, 945, rfl⟩
abbrev main_v644 : Ref sig .tc := ⟨.hbm, 946, rfl⟩
abbrev main_c_81 : Ref sig .tc := ⟨.hbm, 947, rfl⟩
abbrev main_v645 : Ref sig .tc := ⟨.hbm, 948, rfl⟩
abbrev main_v646 : Ref sig .tc := ⟨.hbm, 949, rfl⟩
abbrev main_c_82 : Ref sig .tc := ⟨.hbm, 950, rfl⟩
abbrev main_v647 : Ref sig .tc := ⟨.hbm, 951, rfl⟩
abbrev main_v648 : Ref sig .tc := ⟨.hbm, 952, rfl⟩
abbrev main_v649 : Ref sig .tc := ⟨.hbm, 953, rfl⟩
abbrev main_call104_v0 : Ref sig .tc := ⟨.hbm, 954, rfl⟩
abbrev main_v650 : Ref sig .tc := ⟨.hbm, 955, rfl⟩
abbrev main_v651 : Ref sig .tc := ⟨.hbm, 956, rfl⟩
abbrev main_v652 : Ref sig .tc := ⟨.hbm, 957, rfl⟩
abbrev main_v653 : Ref sig .tc := ⟨.hbm, 958, rfl⟩
abbrev main_v654 : Ref sig .tc := ⟨.hbm, 959, rfl⟩
abbrev main_v655 : Ref sig .tc := ⟨.hbm, 960, rfl⟩
abbrev main_v656 : Ref sig .tc := ⟨.hbm, 961, rfl⟩
abbrev main_v657 : Ref sig .tc := ⟨.hbm, 962, rfl⟩
abbrev main_v658 : Ref sig .tc := ⟨.hbm, 963, rfl⟩
abbrev main_v659 : Ref sig .tc := ⟨.hbm, 964, rfl⟩
abbrev main_v660 : Ref sig .tc := ⟨.hbm, 965, rfl⟩
abbrev main_v661 : Ref sig .tc := ⟨.hbm, 966, rfl⟩
abbrev main_v662 : Ref sig .tc := ⟨.hbm, 967, rfl⟩
abbrev main_v663 : Ref sig .tc := ⟨.hbm, 968, rfl⟩
abbrev main_v664 : Ref sig .tc := ⟨.hbm, 969, rfl⟩
abbrev main_v665 : Ref sig .tc := ⟨.hbm, 970, rfl⟩
abbrev main_v666 : Ref sig .tc := ⟨.hbm, 971, rfl⟩
abbrev main_v667 : Ref sig .tc := ⟨.hbm, 972, rfl⟩
abbrev main_v668 : Ref sig .tc := ⟨.hbm, 973, rfl⟩
abbrev main_v669 : Ref sig .tc := ⟨.hbm, 974, rfl⟩
abbrev main_v670 : Ref sig .tc := ⟨.hbm, 975, rfl⟩
abbrev main_v671 : Ref sig .tc := ⟨.hbm, 976, rfl⟩
abbrev main_v672 : Ref sig .tc := ⟨.hbm, 977, rfl⟩
abbrev main_v673 : Ref sig .tc := ⟨.hbm, 978, rfl⟩
abbrev main_v674 : Ref sig .tc := ⟨.hbm, 979, rfl⟩
abbrev main_v675 : Ref sig .tc := ⟨.hbm, 980, rfl⟩
abbrev main_v676 : Ref sig .tc := ⟨.hbm, 981, rfl⟩
abbrev main_v677 : Ref sig .tc := ⟨.hbm, 982, rfl⟩
abbrev main_v678 : Ref sig .tc := ⟨.hbm, 983, rfl⟩
abbrev main_v679 : Ref sig .tc := ⟨.hbm, 984, rfl⟩
abbrev main_v680 : Ref sig .tc := ⟨.hbm, 985, rfl⟩
abbrev main_v681 : Ref sig .tc := ⟨.hbm, 986, rfl⟩
abbrev main_v682 : Ref sig .tc := ⟨.hbm, 987, rfl⟩
abbrev main_v683 : Ref sig .tc := ⟨.hbm, 988, rfl⟩
abbrev main_v684 : Ref sig .tc := ⟨.hbm, 989, rfl⟩
abbrev main_v685 : Ref sig .tc := ⟨.hbm, 990, rfl⟩
abbrev main_v686 : Ref sig .tc := ⟨.hbm, 991, rfl⟩
abbrev main_v687 : Ref sig .tc := ⟨.hbm, 992, rfl⟩
abbrev main_v688 : Ref sig .tc := ⟨.hbm, 993, rfl⟩
abbrev main_v689 : Ref sig .tc := ⟨.hbm, 994, rfl⟩
abbrev main_v690 : Ref sig .tc := ⟨.hbm, 995, rfl⟩
abbrev main_v691 : Ref sig .tc := ⟨.hbm, 996, rfl⟩
abbrev main_v692 : Ref sig .tc := ⟨.hbm, 997, rfl⟩
abbrev main_v693 : Ref sig .tc := ⟨.hbm, 998, rfl⟩
abbrev main_v694 : Ref sig .tc := ⟨.hbm, 999, rfl⟩
abbrev main_v695 : Ref sig .tc := ⟨.hbm, 1000, rfl⟩
abbrev main_v696 : Ref sig .tc := ⟨.hbm, 1001, rfl⟩
abbrev main_v697 : Ref sig .tc := ⟨.hbm, 1002, rfl⟩
abbrev main_v698 : Ref sig .tc := ⟨.hbm, 1003, rfl⟩
abbrev main_v699 : Ref sig .tc := ⟨.hbm, 1004, rfl⟩
abbrev main_c_83 : Ref sig .tc := ⟨.hbm, 1005, rfl⟩
abbrev main_v700 : Ref sig .tc := ⟨.hbm, 1006, rfl⟩
abbrev main_v701 : Ref sig .tc := ⟨.hbm, 1007, rfl⟩
abbrev main_c_84 : Ref sig .tc := ⟨.hbm, 1008, rfl⟩
abbrev main_v702 : Ref sig .tc := ⟨.hbm, 1009, rfl⟩
abbrev main_v703 : Ref sig .tc := ⟨.hbm, 1010, rfl⟩
abbrev main_c_85 : Ref sig .tc := ⟨.hbm, 1011, rfl⟩
abbrev main_v704 : Ref sig .tc := ⟨.hbm, 1012, rfl⟩
abbrev main_v705 : Ref sig .tc := ⟨.hbm, 1013, rfl⟩
abbrev main_v706 : Ref sig .tc := ⟨.hbm, 1014, rfl⟩
abbrev main_call105_v0 : Ref sig .tc := ⟨.hbm, 1015, rfl⟩
abbrev main_call105_v1 : Ref sig .tc := ⟨.hbm, 1016, rfl⟩
abbrev main_call105_v2 : Ref sig .tc := ⟨.hbm, 1017, rfl⟩
abbrev main_v707 : Ref sig .tc := ⟨.hbm, 1018, rfl⟩
abbrev main_call106_v0 : Ref sig .tc := ⟨.hbm, 1019, rfl⟩
abbrev main_call106_v1 : Ref sig .tc := ⟨.hbm, 1020, rfl⟩
abbrev main_call106_v2 : Ref sig .tc := ⟨.hbm, 1021, rfl⟩
abbrev main_v708 : Ref sig .tc := ⟨.hbm, 1022, rfl⟩
abbrev main_call107_v0 : Ref sig .tc := ⟨.hbm, 1023, rfl⟩
abbrev main_call107_v1 : Ref sig .tc := ⟨.hbm, 1024, rfl⟩
abbrev main_call107_v2 : Ref sig .tc := ⟨.hbm, 1025, rfl⟩
abbrev main_v709 : Ref sig .tc := ⟨.hbm, 1026, rfl⟩
abbrev main_call108_v0 : Ref sig .tc := ⟨.hbm, 1027, rfl⟩
abbrev main_call108_v1 : Ref sig .tc := ⟨.hbm, 1028, rfl⟩
abbrev main_call108_v2 : Ref sig .tc := ⟨.hbm, 1029, rfl⟩
abbrev main_v710 : Ref sig .tc := ⟨.hbm, 1030, rfl⟩
abbrev main_call109_v0 : Ref sig .tc := ⟨.hbm, 1031, rfl⟩
abbrev main_call109_v1 : Ref sig .tc := ⟨.hbm, 1032, rfl⟩
abbrev main_call109_v2 : Ref sig .tc := ⟨.hbm, 1033, rfl⟩
abbrev main_v711 : Ref sig .tc := ⟨.hbm, 1034, rfl⟩
abbrev main_call110_v0 : Ref sig .tc := ⟨.hbm, 1035, rfl⟩
abbrev main_call110_v1 : Ref sig .tc := ⟨.hbm, 1036, rfl⟩
abbrev main_call110_v2 : Ref sig .tc := ⟨.hbm, 1037, rfl⟩
abbrev main_v712 : Ref sig .tc := ⟨.hbm, 1038, rfl⟩
abbrev main_call111_v0 : Ref sig .tc := ⟨.hbm, 1039, rfl⟩
abbrev main_call111_v1 : Ref sig .tc := ⟨.hbm, 1040, rfl⟩
abbrev main_call111_v2 : Ref sig .tc := ⟨.hbm, 1041, rfl⟩
abbrev main_v713 : Ref sig .tc := ⟨.hbm, 1042, rfl⟩
abbrev main_call112_v0 : Ref sig .tc := ⟨.hbm, 1043, rfl⟩
abbrev main_call112_v1 : Ref sig .tc := ⟨.hbm, 1044, rfl⟩
abbrev main_call112_v2 : Ref sig .tc := ⟨.hbm, 1045, rfl⟩
abbrev main_v714 : Ref sig .tc := ⟨.hbm, 1046, rfl⟩
abbrev main_c_86 : Ref sig .tc := ⟨.hbm, 1047, rfl⟩
abbrev main_v715 : Ref sig .tc := ⟨.hbm, 1048, rfl⟩
abbrev main_v716 : Ref sig .tc := ⟨.hbm, 1049, rfl⟩
abbrev main_c_87 : Ref sig .tc := ⟨.hbm, 1050, rfl⟩
abbrev main_v717 : Ref sig .tc := ⟨.hbm, 1051, rfl⟩
abbrev main_v718 : Ref sig .tc := ⟨.hbm, 1052, rfl⟩
abbrev main_c_88 : Ref sig .tc := ⟨.hbm, 1053, rfl⟩
abbrev main_v719 : Ref sig .tc := ⟨.hbm, 1054, rfl⟩
abbrev main_v720 : Ref sig .tc := ⟨.hbm, 1055, rfl⟩
abbrev main_v721 : Ref sig .tc := ⟨.hbm, 1056, rfl⟩
abbrev main_call113_v0 : Ref sig .tc := ⟨.hbm, 1057, rfl⟩
abbrev main_v722 : Ref sig .tc := ⟨.hbm, 1058, rfl⟩
abbrev main_call114_v0 : Ref sig .tc := ⟨.hbm, 1059, rfl⟩
abbrev main_v723 : Ref sig .tc := ⟨.hbm, 1060, rfl⟩
abbrev main_call115_v0 : Ref sig .tc := ⟨.hbm, 1061, rfl⟩
abbrev main_v724 : Ref sig .tc := ⟨.hbm, 1062, rfl⟩
abbrev main_call116_v0 : Ref sig .tc := ⟨.hbm, 1063, rfl⟩
abbrev main_v725 : Ref sig .tc := ⟨.hbm, 1064, rfl⟩
abbrev main_c_89 : Ref sig .tc := ⟨.hbm, 1065, rfl⟩
abbrev main_v726 : Ref sig .tc := ⟨.hbm, 1066, rfl⟩
abbrev main_v727 : Ref sig .tc := ⟨.hbm, 1067, rfl⟩
abbrev main_c_90 : Ref sig .tc := ⟨.hbm, 1068, rfl⟩
abbrev main_v728 : Ref sig .tc := ⟨.hbm, 1069, rfl⟩
abbrev main_v729 : Ref sig .tc := ⟨.hbm, 1070, rfl⟩
abbrev main_c_91 : Ref sig .tc := ⟨.hbm, 1071, rfl⟩
abbrev main_v730 : Ref sig .tc := ⟨.hbm, 1072, rfl⟩
abbrev main_v731 : Ref sig .tc := ⟨.hbm, 1073, rfl⟩
abbrev main_v732 : Ref sig .tc := ⟨.hbm, 1074, rfl⟩
abbrev main_call117_v0 : Ref sig .tc := ⟨.hbm, 1075, rfl⟩
abbrev main_v733 : Ref sig .tc := ⟨.hbm, 1076, rfl⟩
abbrev main_call118_v0 : Ref sig .tc := ⟨.hbm, 1077, rfl⟩
abbrev main_v734 : Ref sig .tc := ⟨.hbm, 1078, rfl⟩
abbrev main_c_92 : Ref sig .tc := ⟨.hbm, 1079, rfl⟩
abbrev main_v735 : Ref sig .tc := ⟨.hbm, 1080, rfl⟩
abbrev main_v736 : Ref sig .tc := ⟨.hbm, 1081, rfl⟩
abbrev main_c_93 : Ref sig .tc := ⟨.hbm, 1082, rfl⟩
abbrev main_v737 : Ref sig .tc := ⟨.hbm, 1083, rfl⟩
abbrev main_v738 : Ref sig .tc := ⟨.hbm, 1084, rfl⟩
abbrev main_c_94 : Ref sig .tc := ⟨.hbm, 1085, rfl⟩
abbrev main_v739 : Ref sig .tc := ⟨.hbm, 1086, rfl⟩
abbrev main_v740 : Ref sig .tc := ⟨.hbm, 1087, rfl⟩
abbrev main_v741 : Ref sig .tc := ⟨.hbm, 1088, rfl⟩
abbrev main_call119_v0 : Ref sig .tc := ⟨.hbm, 1089, rfl⟩
abbrev main_v742 : Ref sig .tc := ⟨.hbm, 1090, rfl⟩
abbrev main_v743 : Ref sig .tc := ⟨.hbm, 1091, rfl⟩
abbrev main_v744 : Ref sig .tc := ⟨.hbm, 1092, rfl⟩
abbrev main_v745 : Ref sig .tc := ⟨.hbm, 1093, rfl⟩

abbrev nD : Nat := 1
abbrev τ : Topo := Topo.v7x

variable {F : FTy → Type} [FloatOps F]
-- ==== Proof.FrameBits.lean ====
/- The frame of the kernel as printed, at the words of the machine: every weakly fair run of @main ends, the three
   argument arrays unchanged and every semaphore counter at zero. Nothing is said here of what the kernel computes:
   its two results and its scratch buffer are held at some contents throughout. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's one condition, and its scratch -/

/-- The condition under which the body builds the tables: the grid coordinate is zero. -/
abbrev first (i : grid0.Coords) : Prop := k0_cond1 i = 1#1

/-- The scratch operand: the whole buffer of the broadcast tables. -/
abbrev scr : Memref sig .tc .vmem S2x8x16x128 .f32 := Memref.whole cc0_scratch0

/-- The region invariant: the scratch at some contents, and the generator register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The body on any staging buffers, its inputs left as they were -/

set_option maxHeartbeats 1000000 in
/-- At the first point: the tables are built, then the loop runs. -/
theorem body_first (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : first i)
    (x0 : Vec F S2x1024 .bf16) (x1 : Vec F S8x16x128 .f32) (x2 : Vec F S4x65536 .i8) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0_pq4_adc i arg1 harg1 arg2 harg2 arg3 harg3 arg4 harg4 arg5 harg5 arg6 harg6) K := by
  simp only [cc0_pq4_adc_eq_skeleton]; unfold cc0_pq4_adc_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  iexists _, _; isplitr; swap; · iexact HS0
  ipureintro; rfl

set_option maxHeartbeats 1000000 in
/-- At every later point: the loop alone. -/
theorem body_later (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : ¬first i)
    (x0 : Vec F S2x1024 .bf16) (x1 : Vec F S8x16x128 .f32) (x2 : Vec F S4x65536 .i8) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0_pq4_adc i arg1 harg1 arg2 harg2 arg3 harg3 arg4 harg4 arg5 harg5 arg6 harg6) K := by
  simp only [cc0_pq4_adc_eq_skeleton]; unfold cc0_pq4_adc_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [H4]
  · iexists _, _; isplitr; swap; · iexact H4
    ipureintro; rfl
  iexists _, _; isplitr; swap; · iexact HS0
  ipureintro; rfl

/-! ## The proof data -/

/-- The two results are not named: windows 3 and 4. -/
def forgets : Fin 5 → Bool := fun w => w.val == 3 || w.val == 4

/-- Window 2's staging buffer after the body: the block's columns inside the array, the zero word on the others (the
    last block overhangs the array, and nothing is read of the filler). -/
def codes8 (c : Dev nD) (t : Fin cfg0.N) : S4x65536.Idx → Elt F .i8 :=
  win0_2.fill (grid0.coords t) (fun _ => (0#8 : BitVec 8)) (iblk m c 2 t)

/-- The arrays as the region finds them; each input's buffer left at its block; the invariant the scratch at some
    contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codes8 m c t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = codes8 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- Window 2 is fetched at every point: its block on the columns inside the array, anything on the others. -/
theorem before_2 (c : Dev nD) (t : Fin cfg0.N) (d) :
    (dats m 0 c).before 2 t d = win0_2.fill (grid0.coords t) d (iblk m c 2 t) := by
  rw [Dat.before_fetched _ _ _ (fetch0_2 t)]; unfold Dat.fetched Dat.blockOf iblk; rw [A_eq]

/-! ## The body obligation -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is handed at point `t`, window by window, and what it hands back. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))
def bodyPost (c : Dev nD) (t : Fin cfg0.N) : sProp 𝕄 :=
  iprop(Pipeline.ΦA spec0 c ∗ (dats m 0 c).owesAt () t.castSucc
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare d)
    ∗ (∃ d, owns (c : Thread nD τ) (st0_4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, codes8, Window.cut_fill, PhiA_eq]
  iintro ⟨⟨HS, Hg⟩, Ho, ⟨%d0, H0⟩, ⟨%d1, H1⟩, ⟨%d2, H2⟩, H3, H4⟩
  by_cases h0 : first (grid0.coords t)
  · iapply (body_first c (grid0.coords t) _ _ _ _ _ _ _ _ _ _ _ _ h0 (iblk m c 0 t) (iblk m c 1 t) (win0_2.fill (grid0.coords t) d2 (iblk m c 2 t)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexists d2; iexact H2
    isplitl [H3]; · iexact H3
    iexact H4
  · iapply (body_later c (grid0.coords t) _ _ _ _ _ _ _ _ _ _ _ _ h0 (iblk m c 0 t) (iblk m c 1 t) (win0_2.fill (grid0.coords t) d2 (iblk m c 2 t)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexists d2; iexact H2
    isplitl [H3]; · iexact H3
    iexact H4

/-- The library's body obligation at every point. -/
theorem body_obligation (c : Dev nD) : BodyObligationLoose (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every weakly fair run of @main ends with the staged inputs and every unscoped buffer outside the windows as the
    region found them, and every semaphore counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)

/-- THE FRAME: the argument arrays end unchanged, every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩)
    (run_main m ρ)

end Cert.Kernel.Hand

end
-- ==== Proof.Group.lean ====
/- One group of 1024 columns: what a trip of the kernel's loop stores for it, as one term of the group's codes and of
   the tables. Every trip stores four groups, and all of them are this one term. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The words of a group: four bytes of each of 1024 columns, as eight rows of 128 lanes. -/
def words (q : Vec F S4x1024 .i8) : IVec S8x128 32 :=
  shapeCast S8x128 (bitcast S1x1024 32 (shapeCast S4x1024 q shapeCasts_S4x1024_S4x1024) bitcasts_S4x1024_w8_S1x1024_w32) shapeCasts_S1x1024_S8x128

/-- One table read: the word shifted down by `n` bits, its low three bits the row, its fourth bit the half of the
    table (`lo` centroids 0–7, `hi` centroids 8–15). -/
def pick (w : IVec S8x128 32) (n : BitVec 32) (lo hi : Vec F S1x1x8x128 .f32) : FVec F S8x128 .f32 :=
  select (cmpi .ne (andi (shrui w (broadcast S8x128 n)) (broadcast S8x128 8#32)) (broadcast S8x128 0#32))
    (dynamicGather 0 (shapeCast S8x128 hi shapeCasts_S1x1x8x128_S8x128)
      (shapeCast S8x128 (shapeCast S8x128x1 (andi (shrui w (broadcast S8x128 n)) (broadcast S8x128 7#32)) shapeCasts_S8x128_S8x128x1) shapeCasts_S8x128x1_S8x128))
    (dynamicGather 0 (shapeCast S8x128 lo shapeCasts_S1x1x8x128_S8x128)
      (shapeCast S8x128 (shapeCast S8x128x1 (andi (shrui w (broadcast S8x128 n)) (broadcast S8x128 7#32)) shapeCasts_S8x128_S8x128x1) shapeCasts_S8x128x1_S8x128))

/-- The sum of the eight table reads of one query: the even subspaces, the odd ones, and the two sums together. -/
def total (w : IVec S8x128 32) (lo hi : Fin 8 → Vec F S1x1x8x128 .f32) : FVec F S8x128 .f32 :=
  addf
    (addf (addf (addf (pick w 0#32 (lo 0) (hi 0)) (pick w 8#32 (lo 2) (hi 2))) (pick w 16#32 (lo 4) (hi 4))) (pick w 24#32 (lo 6) (hi 6)))
    (addf (addf (addf (pick w 4#32 (lo 1) (hi 1)) (pick w 12#32 (lo 3) (hi 3))) (pick w 20#32 (lo 5) (hi 5))) (pick w 28#32 (lo 7) (hi 7)))

/-- What is stored for a group: the two queries' sums, rounded, one row each. -/
def group (q : Vec F S4x1024 .i8) (lo hi : Fin 2 → Fin 8 → Vec F S1x1x8x128 .f32) : Vec F S2x1024 .bf16 :=
  interleaveRows S2x1024
    (shapeCast S1x1024 (truncf .bf16 (total (words q) (lo 0) (hi 0)) bitsLt_bf16_f32 : FVec F S8x128 .bf16) shapeCasts_S8x128_S1x1024)
    (shapeCast S1x1024 (truncf .bf16 (total (words q) (lo 1) (hi 1)) bitsLt_bf16_f32 : FVec F S8x128 .bf16) shapeCasts_S8x128_S1x1024)
    bitcasts_S2x1024_w16_S1x1024_w32

theorem lo_inb (b : Fin 2) (s : Fin 8) : ∀ a, (![b.val, s.val, 0, 0] : Fin 4 → ℕ) a + S1x1x8x128.size a ≤ S2x8x16x128.size a := by
  revert b s; decide
theorem hi_inb (b : Fin 2) (s : Fin 8) : ∀ a, (![b.val, s.val, 8, 0] : Fin 4 → ℕ) a + S1x1x8x128.size a ≤ S2x8x16x128.size a := by
  revert b s; decide

/-- The lower and the upper half of query `b`'s table of subspace `s`, as rectangles of the scratch. -/
abbrev loRect (b : Fin 2) (s : Fin 8) : Rect S2x8x16x128 := Rect.unit ![b.val, s.val, 0, 0] S1x1x8x128.size (lo_inb b s)
abbrev hiRect (b : Fin 2) (s : Fin 8) : Rect S2x8x16x128 := Rect.unit ![b.val, s.val, 8, 0] S1x1x8x128.size (hi_inb b s)

/-- The columns of group `g` of trip `k`: in the codes, and in the distances. -/
abbrev inRect (k : Fin k0_t1_loop.trips) (g : Fin 4) : Rect S4x65536 :=
  Rect.unit (k0_off1 k (BitVec.ofNat 32 (8 * g.val))) S4x1024.size (k0_off1_inb k g)
abbrev outRect (k : Fin k0_t1_loop.trips) (g : Fin 4) : Rect S2x65536 :=
  Rect.unit (k0_off2 k (BitVec.ofNat 32 (8 * g.val))) S2x1024.size (k0_off2_inb k g)

/-- The store of group `g` of trip `k`, from the contents of the codes' buffer and of the scratch. -/
def piece (arg3 : Memref sig .tc .vmem S4x65536 .i8) (arg6 : Memref sig .tc .vmem S2x8x16x128 .f32)
    (X3 : BufTy.Contents (Elt F) arg3.view.ty) (X6 : BufTy.Contents (Elt F) arg6.view.ty)
    (k : Fin k0_t1_loop.trips) (g : Fin 4) : View.Piece (Elt F) S2x65536 .bf16 :=
  ⟨outRect k g, group (arg3.view.readAt (Elt F) (inRect k g).toLoadRect X3)
    (fun b s => arg6.view.readAt (Elt F) (loRect b s).toLoadRect X6) (fun b s => arg6.view.readAt (Elt F) (hiRect b s).toLoadRect X6)⟩

set_option maxHeartbeats 1000000 in
/-- A trip's stores are its four groups', the last first. -/
theorem trip_pieces (𝒱 : Variants) (c : Dev nD) (bd : Option 𝒱.V) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (X3 : BufTy.Contents (Elt F) arg3.view.ty) (X6 : BufTy.Contents (Elt F) arg6.view.ty) (k : Fin k0_t1_loop.trips) :
    tripL_k0_t1 𝒱 c bd i arg1 harg1 arg2 harg2 arg3 harg3 arg4 harg4 arg5 harg5 arg6 harg6 X3 X6 k
      = [piece arg3 arg6 X3 X6 k 3, piece arg3 arg6 X3 X6 k 2, piece arg3 arg6 X3 X6 k 1, piece arg3 arg6 X3 X6 k 0] := by
  unfold tripL_k0_t1 trip_k0_t1
  rfl

end Cert.KernelIdeal.Hand

end
-- ==== Proof.Run.lean ====
/- The body of the kernel run once, with what each of its stores leaves: at the first point the tables and their
   lookup rows, then the loop; at every later point the loop alone, over the tables it finds. -/
module

public import proofs.«01_k».proof.Proof.Group

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The tables' stores -/

/-- The squared distances of one query's part `q` to the sixteen centroids `e`, each in every lane of its row. -/
def rows (q : Vec F S1x128 .bf16) (e : Vec F S1x16x128 .f32) : FVec F S16x128 .f32 :=
  broadcastTo S16x128
    (shapeCast S16x1 (shapeCast S16x1
      (multiReduction .add [1] S16
        (mulf
          (subf (broadcastTo S16x128 (extf .f32 q bitsLt_bf16_f32 : FVec F S1x128 .f32) broadcasts_S1x128_S16x128)
            (shapeCast S16x128 e shapeCasts_S1x16x128_S16x128))
          (subf (broadcastTo S16x128 (extf .f32 q bitsLt_bf16_f32 : FVec F S1x128 .f32) broadcasts_S1x128_S16x128)
            (shapeCast S16x128 e shapeCasts_S1x16x128_S16x128)))
        0x00000000#32 reduces_S16x128_S16 (.inl rfl) rfl) shapeCasts_S16_S16x1) shapeCasts_S16x1_S16x1)
    broadcasts_S16x1_S16x128

/-- The lookup row: the diagonal of the table's rows, picked by a mask and a column sum. -/
def lutRow (q : Vec F S1x128 .bf16) (e : Vec F S1x16x128 .f32) : FVec F S1x1x16 .f32 :=
  shapeCast S1x1x16
    (extractStridedSlice S1x16 ![0, 0]
      (shapeCast S1x128
        (multiReduction .add [0] S128
          (select (cmpi .eq (iota .tc S16x128 32 [0] iota_S16x128_d0_w32) (iota .tc S16x128 32 [1] iota_S16x128_d1_w32))
            (rows q e) (broadcast S16x128 (Scalar.ofBits .f32 0x00000000#32 : F .f32)))
          0x00000000#32 reduces_S16x128_S128 (.inl rfl) rfl) shapeCasts_S128_S1x128)
      slices_S1x128_o0_0_S1x16) shapeCasts_S1x16_S1x1x16

theorem q_inb (b : Fin 2) (s : Fin 8) : ∀ a, (![b.val, 128 * s.val] : Fin 2 → ℕ) a + S1x128.size a ≤ S2x1024.size a := by
  revert b s; decide
theorem e_inb (s : Fin 8) : ∀ a, (![s.val, 0, 0] : Fin 3 → ℕ) a + S1x16x128.size a ≤ S8x16x128.size a := by
  revert s; decide
theorem tab_inb (b : Fin 2) (s : Fin 8) : ∀ a, (![b.val, s.val, 0, 0] : Fin 4 → ℕ) a + S1x1x16x128.size a ≤ S2x8x16x128.size a := by
  revert b s; decide
theorem lut_inb (b : Fin 2) (s : Fin 8) : ∀ a, (![b.val, s.val, 0] : Fin 3 → ℕ) a + S1x1x16.size a ≤ S2x8x16.size a := by
  revert b s; decide

/-- Query `b`'s part for subspace `s`; the centroids of subspace `s`; their table and lookup row. -/
abbrev qRect (b : Fin 2) (s : Fin 8) : Rect S2x1024 := Rect.unit ![b.val, 128 * s.val] S1x128.size (q_inb b s)
abbrev eRect (s : Fin 8) : Rect S8x16x128 := Rect.unit ![s.val, 0, 0] S1x16x128.size (e_inb s)
abbrev tabRect (b : Fin 2) (s : Fin 8) : Rect S2x8x16x128 := Rect.unit ![b.val, s.val, 0, 0] S1x1x16x128.size (tab_inb b s)
abbrev lutRect (b : Fin 2) (s : Fin 8) : Rect S2x8x16 := Rect.unit ![b.val, s.val, 0] S1x1x16.size (lut_inb b s)

section
variable (arg1 : Memref sig .tc .vmem S2x1024 .bf16) (arg2 : Memref sig .tc .vmem S8x16x128 .f32)
  (X1 : BufTy.Contents (Elt F) arg1.view.ty) (X2 : BufTy.Contents (Elt F) arg2.view.ty)

/-- The store of one table, and of its lookup row, from the contents of the queries' and the codebooks' buffers. -/
def tabPiece (b : Fin 2) (s : Fin 8) : View.Piece (Elt F) S2x8x16x128 .f32 :=
  ⟨tabRect b s, shapeCast S1x1x16x128 (rows (arg1.view.readAt (Elt F) (qRect b s).toLoadRect X1)
    (arg2.view.readAt (Elt F) (eRect s).toLoadRect X2)) shapeCasts_S16x128_S1x1x16x128⟩
def lutPiece (b : Fin 2) (s : Fin 8) : View.Piece (Elt F) S2x8x16 .f32 :=
  ⟨lutRect b s, lutRow (arg1.view.readAt (Elt F) (qRect b s).toLoadRect X1) (arg2.view.readAt (Elt F) (eRect s).toLoadRect X2)⟩

/-- All sixteen, the last first. -/
def tabPieces : List (View.Piece (Elt F) S2x8x16x128 .f32) :=
  [tabPiece arg1 arg2 X1 X2 1 7, tabPiece arg1 arg2 X1 X2 1 6, tabPiece arg1 arg2 X1 X2 1 5, tabPiece arg1 arg2 X1 X2 1 4,
   tabPiece arg1 arg2 X1 X2 1 3, tabPiece arg1 arg2 X1 X2 1 2, tabPiece arg1 arg2 X1 X2 1 1, tabPiece arg1 arg2 X1 X2 1 0,
   tabPiece arg1 arg2 X1 X2 0 7, tabPiece arg1 arg2 X1 X2 0 6, tabPiece arg1 arg2 X1 X2 0 5, tabPiece arg1 arg2 X1 X2 0 4,
   tabPiece arg1 arg2 X1 X2 0 3, tabPiece arg1 arg2 X1 X2 0 2, tabPiece arg1 arg2 X1 X2 0 1, tabPiece arg1 arg2 X1 X2 0 0]
def lutPieces : List (View.Piece (Elt F) S2x8x16 .f32) :=
  [lutPiece arg1 arg2 X1 X2 1 7, lutPiece arg1 arg2 X1 X2 1 6, lutPiece arg1 arg2 X1 X2 1 5, lutPiece arg1 arg2 X1 X2 1 4,
   lutPiece arg1 arg2 X1 X2 1 3, lutPiece arg1 arg2 X1 X2 1 2, lutPiece arg1 arg2 X1 X2 1 1, lutPiece arg1 arg2 X1 X2 1 0,
   lutPiece arg1 arg2 X1 X2 0 7, lutPiece arg1 arg2 X1 X2 0 6, lutPiece arg1 arg2 X1 X2 0 5, lutPiece arg1 arg2 X1 X2 0 4,
   lutPiece arg1 arg2 X1 X2 0 3, lutPiece arg1 arg2 X1 X2 0 2, lutPiece arg1 arg2 X1 X2 0 1, lutPiece arg1 arg2 X1 X2 0 0]
end

/-! ## The body -/

/-- The condition under which the body builds the tables: the grid coordinate is zero. -/
abbrev first (i : grid0.Coords) : Prop := k0_cond1 i = 1#1

/-- What the loop's trips before `k` store, at the contents of the codes' buffer and of the scratch. -/
abbrev loopPieces (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (X3 : BufTy.Contents (Elt F) arg3.view.ty) (X6 : BufTy.Contents (Elt F) arg6.view.ty) (k : ℕ) : List (View.Piece (Elt F) S2x65536 .bf16) :=
  pb_k0_t1 (F := F) Variants.none c none i arg1 harg1 arg2 harg2 arg3 harg3 arg4 harg4 arg5 harg5 arg6 harg6 X3 X6 k

set_option maxHeartbeats 1000000 in
/-- At the first point: the tables and lookup rows are stored, then the loop's trips run over the tables. The two lists
    of stores are the run's own finds. -/
def firstRun (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : first i)
    (x0 : Vec F S2x1024 .bf16) (x1 : Vec F S8x16x128 .f32) (x2 : Vec F S4x65536 .i8) :
    (LS : List (View.Piece (Elt F) S2x8x16x128 .f32)) ×' { LL : List (View.Piece (Elt F) S2x8x16 .f32) //
      ∀ (E : Set ℕ) (K : PUnit → sProp 𝕄),
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ ((arg6.view.loc (c : Thread nD τ) ↦[arg6.view.set]{fullShare} arg6.view.writes (Elt F) arg6.view.junk LS)
              ∗ (∃ f4, arg4.view.loc (c : Thread nD τ) ↦[arg4.view.set]{fullShare} arg4.view.writes (Elt F) f4
                  (loopPieces c i arg1 harg1 arg2 harg2 arg3 harg3 arg4 harg4 arg5 harg5 arg6 harg6 (harg3.unread x2) (arg6.view.writes (Elt F) arg6.view.junk LS) k0_t1_loop.trips)))
            ∗ (∃ f5, arg5.view.loc (c : Thread nD τ) ↦[arg5.view.set]{fullShare} arg5.view.writes (Elt F) f5 LL)) -∗ K ⟨⟩))
      ⊢ wp frame (wpE (defs₀ (F := F)) Variants.none c none) E (cc0_pq4_adc i arg1 harg1 arg2 harg2 arg3 harg3 arg4 harg4 arg5 harg5 arg6 harg6) K } := by
  refine ⟨?_, ?_, fun E K => ?run⟩
  case run =>
    simp only [cc0_pq4_adc_eq_skeleton]; unfold cc0_pq4_adc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitr [H4]
    · isplitl [HS0]; · iexact HS0
      iexists f3; iexact H3
    · iexists _; iexact H4

/-- The stores found are the sixteen tables and the sixteen lookup rows. -/
theorem firstRun_tab (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : first i)
    (x0 : Vec F S2x1024 .bf16) (x1 : Vec F S8x16x128 .f32) (x2 : Vec F S4x65536 .i8) :
    (firstRun c i arg1 harg1 arg2 harg2 arg3 harg3 arg4 harg4 arg5 harg5 arg6 harg6 hc0 x0 x1 x2).1 = tabPieces arg1 arg2 (harg1.unread x0) (harg2.unread x1) := by
  unfold firstRun tabPieces
  rfl
theorem firstRun_lut (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : first i)
    (x0 : Vec F S2x1024 .bf16) (x1 : Vec F S8x16x128 .f32) (x2 : Vec F S4x65536 .i8) :
    (firstRun c i arg1 harg1 arg2 harg2 arg3 harg3 arg4 harg4 arg5 harg5 arg6 harg6 hc0 x0 x1 x2).2.1 = lutPieces arg1 arg2 (harg1.unread x0) (harg2.unread x1) := by
  unfold firstRun lutPieces
  rfl

set_option maxHeartbeats 1000000 in
/-- At every later point: the loop alone, over the tables found in the scratch. -/
theorem later_run (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : ¬first i)
    (x0 : Vec F S2x1024 .bf16) (x1 : Vec F S8x16x128 .f32) (x2 : Vec F S4x65536 .i8) (x4 : Vec F S2x8x16 .f32) (x6 : Vec F S2x8x16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x6
        ∗ (iprop(owns (c : Thread nD τ) arg1 fullShare x0 ∗ owns (c : Thread nD τ) arg2 fullShare x1 ∗ owns (c : Thread nD τ) arg3 fullShare x2
            ∗ owns (c : Thread nD τ) arg6 fullShare x6
            ∗ (∃ f4, arg4.view.loc (c : Thread nD τ) ↦[arg4.view.set]{fullShare} arg4.view.writes (Elt F) f4
                  (loopPieces c i arg1 harg1 arg2 harg2 arg3 harg3 arg4 harg4 arg5 harg5 arg6 harg6 (harg3.unread x2) (harg6.unread x6) k0_t1_loop.trips))
            ∗ owns (c : Thread nD τ) arg5 fullShare x4) -∗ K ⟨⟩))
      ⊢ wp frame (wpE (defs₀ (F := F)) Variants.none c none) E (cc0_pq4_adc i arg1 harg1 arg2 harg2 arg3 harg3 arg4 harg4 arg5 harg5 arg6 harg6) K := by
  simp only [cc0_pq4_adc_eq_skeleton]; unfold cc0_pq4_adc_skel
  unfold owns
  iintro ⟨⟨%f0, %hf0, H0⟩, ⟨%f1, %hf1, H1⟩, ⟨%f2, %hf2, H2⟩, ⟨%d3, %f3, -, H3⟩, H4, ⟨%fs0, %hfs0, HS0⟩, Hk⟩
  obtain rfl := harg1.eq_unread hf0; obtain rfl := harg2.eq_unread hf1; obtain rfl := harg3.eq_unread hf2; obtain rfl := harg6.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr; · ipureintro; exact harg6.read_unread _
    iexact HS0
  isplitl [H3]
  · iexists f3; iexact H3
  iexact H4

end Cert.KernelIdeal.Hand

end
-- ==== Proof.Word.lean ====
/- A group of columns, element by element: the eight table reads are the tables' rows at the nibbles of the column's
   word. -/
module

public import proofs.«01_k».proof.Proof.Group
public import Idealize.ShloMosaic.Lib.Pointwise
public import Idealize.ShloMosaic.Lib.BitcastFour

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Words and nibbles -/

/-- Four bytes as one word, the first lowest. -/
def wordOf (b : Fin 4 → BitVec 8) : BitVec 32 :=
  (b 0).setWidth 32 ||| ((b 1).setWidth 32 <<< 8) ||| ((b 2).setWidth 32 <<< 16) ||| ((b 3).setWidth 32 <<< 24)

/-- Nibble `s` of a word. -/
def nibble (w : BitVec 32) (s : Fin 8) : Fin 16 := ⟨w.toNat / 2 ^ (4 * s.val) % 16, Nat.mod_lt _ (by decide)⟩

/-- The eight terms of a distance, summed in the kernel's order and rounded: even subspaces, odd ones, the two sums. -/
def sumOf (v : Fin 8 → F .f32) : F .bf16 :=
  FloatOps.truncf .bf16 bitsLt_bf16_f32 (FloatOps.addf
    (FloatOps.addf (FloatOps.addf (FloatOps.addf (v 0) (v 2)) (v 4)) (v 6))
    (FloatOps.addf (FloatOps.addf (FloatOps.addf (v 1) (v 3)) (v 5)) (v 7)))

/-- A word shifted down by `4 s` bits, as a number. -/
theorem shr_toNat (w : BitVec 32) (s : Fin 8) :
    (IntOp.shrui .vector w (BitVec.ofNat 32 (4 * s.val))).toNat = w.toNat / 2 ^ (4 * s.val) := by
  fin_cases s <;> simp [IntOp.shrui, Nat.shiftRight_eq_div_pow]

/-- The low three bits of a word shifted down by `4 s`. -/
theorem low_bits (w : BitVec 32) (s : Fin 8) :
    (IntOp.andi (IntOp.shrui .vector w (BitVec.ofNat 32 (4 * s.val))) 7#32).toNat % 8 = (nibble w s).val % 8 := by
  have h : ∀ n, n &&& 7 = n % 8 := fun n => Nat.and_two_pow_sub_one_eq_mod n 3
  rw [IntOp.andi, BitVec.toNat_and, shr_toNat, show (7#32 : BitVec 32).toNat = 7 from rfl, h]
  show _ = w.toNat / 2 ^ (4 * s.val) % 16 % 8
  omega

/-- Its fourth bit. -/
theorem high_bit (w : BitVec 32) (s : Fin 8) :
    IntOp.cmpi .ne (IntOp.andi (IntOp.shrui .vector w (BitVec.ofNat 32 (4 * s.val))) 8#32) 0#32
      = if 8 ≤ (nibble w s).val then 1#1 else 0#1 := by
  have h8 : (8#32 : BitVec 32) = BitVec.twoPow 32 3 := by decide
  have hb : (IntOp.shrui .vector w (BitVec.ofNat 32 (4 * s.val))).getLsbD 3 = decide (8 ≤ (nibble w s).val) := by
    rw [BitVec.getLsbD, shr_toNat, Nat.testBit_eq_decide_div_mod_eq]
    refine decide_eq_decide.2 ?_
    show _ ↔ 8 ≤ w.toNat / 2 ^ (4 * s.val) % 16
    omega
  rw [IntOp.andi, h8, BitVec.and_twoPow, hb]
  by_cases h : 8 ≤ (nibble w s).val
  · rw [if_pos (decide_eq_true h), if_pos h]; decide
  · rw [if_neg (by simpa using h), if_neg h]; decide

/-- A table read is the table at the nibble. -/
theorem pick_apply (w : IVec S8x128 32) (s : Fin 8) (lo hi : Vec F S1x1x8x128 .f32) (T : Fin 16 → Fin 128 → F .f32)
    (hlo : ∀ (r : Fin 8) (l : Fin 128), lo (ix4 0 0 r l) = T ⟨r.val, by omega⟩ l)
    (hhi : ∀ (r : Fin 8) (l : Fin 128), hi (ix4 0 0 r l) = T ⟨r.val + 8, by omega⟩ l) (r : Fin 8) (l : Fin 128) :
    pick w (BitVec.ofNat 32 (4 * s.val)) lo hi (ix2 r l) = T (nibble (w (ix2 r l)) s) l := by
  unfold pick
  pointwise
  rw [high_bit, hlo, hhi]
  simp only [low_bits]
  have := (nibble (w (ix2 r l)) s).isLt
  split_ifs with h
  · refine congrFun (congrArg T (Fin.ext ?_)) l
    show (nibble (w (ix2 r l)) s).val % 8 + 8 = _
    omega
  · refine congrFun (congrArg T (Fin.ext ?_)) l
    show (nibble (w (ix2 r l)) s).val % 8 = _
    omega

/-- The word at row `r`, lane `l` of a group is the four bytes of its column `128 r + l`. -/
theorem words_apply (q : Vec F S4x1024 .i8) (r : Fin 8) (l : Fin 128) :
    words q (ix2 r l) = wordOf fun p => q (ix2 p ⟨r.val * 128 + l.val, by omega⟩) := by
  unfold words
  pointwise
  refine BitVec.eq_of_getLsbD_eq fun i hi => ?_
  rw [wordOf, four_bytes_getLsbD (fun p : Fin 4 => q (ix2 p ⟨r.val * 128 + l.val, by omega⟩)) i hi]
  exact bitcast_8_32_getLsbD_ix2 q _ 0 _ i hi _ (by simp)

/-- What is stored for a group, at query `b` and column `n`. -/
theorem group_apply (q : Vec F S4x1024 .i8) (lo hi : Fin 2 → Fin 8 → Vec F S1x1x8x128 .f32) (b : Fin 2) (n : Fin 1024) :
    group q lo hi (ix2 b n) = sumOf fun s => pick (words q) (BitVec.ofNat 32 (4 * s.val)) (lo b s) (hi b s) (ix2 ⟨n.val / 128, by omega⟩ ⟨n.val % 128, by omega⟩) := by
  unfold group total
  pointwise
  match b with
  | 0 => exact if_pos rfl
  | 1 => exact if_neg (by decide)

/-- A block's distances: at query `b` and a column, the eight tables of the query at the nibbles of the column's word. -/
def distOf (x2 : Vec F S4x65536 .i8) (T : Fin 2 → Fin 8 → Fin 16 → F .f32) : Vec F S2x65536 .bf16 :=
  fun y => sumOf fun s => T (y 0) s (nibble (wordOf fun p => x2 (ix2 p (y 1))) s)

/-- A group's store, loaded from the columns `col` of a block's codes and from the tables, holds the block's distances
    at those columns. -/
theorem group_eq (x2 : Vec F S4x65536 .i8) (T : Fin 2 → Fin 8 → Fin 16 → F .f32) (col : Fin 1024 → Fin 65536)
    (q : Vec F S4x1024 .i8) (lo hi : Fin 2 → Fin 8 → Vec F S1x1x8x128 .f32)
    (hq : ∀ (p : Fin 4) (n : Fin 1024), q (ix2 p n) = x2 (ix2 p (col n)))
    (hlo : ∀ b s (r : Fin 8) (l : Fin 128), lo b s (ix4 0 0 r l) = T b s ⟨r.val, by omega⟩)
    (hhi : ∀ b s (r : Fin 8) (l : Fin 128), hi b s (ix4 0 0 r l) = T b s ⟨r.val + 8, by omega⟩) (b : Fin 2) (n : Fin 1024) :
    group q lo hi (ix2 b n) = distOf x2 T (ix2 b (col n)) := by
  rw [group_apply]
  refine congrArg sumOf (funext fun s => ?_)
  rw [pick_apply (words q) s _ _ (fun k _ => T b s k) (hlo b s) (hhi b s), words_apply]
  refine congrArg (fun w => T b s (nibble w s)) (congrArg wordOf (funext fun p => ?_))
  refine Eq.trans ?_ (hq p n)
  refine congrArg (fun m => q (ix2 p m)) (Fin.ext ?_)
  show n.val / 128 * 128 + n.val % 128 = n.val
  omega

end Cert.KernelIdeal.Hand

end
-- ==== Proof.Block.lean ====
/- What the kernel's stores hold, element by element: the tables, the lookup rows, and a block of distances as table
   reads at the nibbles of each column's word. -/
module

public import proofs.«01_k».proof.Proof.Run
public import proofs.«01_k».proof.Proof.Word
public import Idealize.ShloMosaic.Lib.Pointwise
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem off1_eq : ∀ (k : Fin k0_t1_loop.trips) (g : Fin 4),
    k0_off1 k (BitVec.ofNat 32 (8 * g.val)) = ![0, 4096 * k.val + 1024 * g.val] := by decide +kernel
theorem off2_eq : ∀ (k : Fin k0_t1_loop.trips) (g : Fin 4),
    k0_off2 k (BitVec.ofNat 32 (8 * g.val)) = ![0, 4096 * k.val + 1024 * g.val] := by decide +kernel
theorem trips_eq : k0_t1_loop.trips = 16 := by decide +kernel

/-- Column `n` of group `g` of trip `k`, in the block. -/
def col (k : Fin k0_t1_loop.trips) (g : Fin 4) (n : Fin 1024) : Fin 65536 :=
  ⟨4096 * k.val + 1024 * g.val + n.val, by have := lt_of_lt_of_eq k.isLt trips_eq; omega⟩

theorem inRect_idx (k : Fin k0_t1_loop.trips) (g : Fin 4) (p : Fin 4) (n : Fin 1024) :
    (inRect k g).toLoadRect.idx (ix2 p n) = ix2 p (col k g n) := by
  funext a
  refine Fin.ext ?_
  show k0_off1 k (BitVec.ofNat 32 (8 * g.val)) a + 1 * _ = _
  rw [off1_eq]
  match a with
  | 0 => show 0 + 1 * p.val = p.val; omega
  | 1 => show 4096 * k.val + 1024 * g.val + 1 * n.val = 4096 * k.val + 1024 * g.val + n.val; omega

theorem outRect_emb (k : Fin k0_t1_loop.trips) (g : Fin 4) (p : Fin 2) (n : Fin 1024) :
    (outRect k g).emb (ix2 p n) = ix2 p (col k g n) := by
  funext a
  refine Fin.ext ?_
  show k0_off2 k (BitVec.ofNat 32 (8 * g.val)) a + 1 * _ = _
  rw [off2_eq]
  match a with
  | 0 => show 0 + 1 * p.val = p.val; omega
  | 1 => show 4096 * k.val + 1024 * g.val + 1 * n.val = 4096 * k.val + 1024 * g.val + n.val; omega

theorem loRect_idx (b : Fin 2) (s : Fin 8) (r : Fin 8) (l : Fin 128) :
    (loRect b s).toLoadRect.idx (ix4 0 0 r l) = ix4 b s ⟨r.val, by omega⟩ l := by
  funext a
  refine Fin.ext ?_
  match a with
  | 0 => show b.val + 1 * 0 = b.val; omega
  | 1 => show s.val + 1 * 0 = s.val; omega
  | 2 => show 0 + 1 * r.val = r.val; omega
  | 3 => show 0 + 1 * l.val = l.val; omega

theorem hiRect_idx (b : Fin 2) (s : Fin 8) (r : Fin 8) (l : Fin 128) :
    (hiRect b s).toLoadRect.idx (ix4 0 0 r l) = ix4 b s ⟨r.val + 8, by omega⟩ l := by
  funext a
  refine Fin.ext ?_
  match a with
  | 0 => show b.val + 1 * 0 = b.val; omega
  | 1 => show s.val + 1 * 0 = s.val; omega
  | 2 => show 8 + 1 * r.val = r.val + 8; omega
  | 3 => show 0 + 1 * l.val = l.val; omega

/-- The tables' buffer when table `(b, s)` holds row `k`'s value in every lane of row `k`. -/
def spread (T : Fin 2 → Fin 8 → Fin 16 → F .f32) : Vec F S2x8x16x128 .f32 := fun y => T (y 0) (y 1) (y 2)

section
variable (arg3 : Memref sig .tc .vmem S4x65536 .i8) (arg6 : Memref sig .tc .vmem S2x8x16x128 .f32)
    (X3 : BufTy.Contents (Elt F) arg3.view.ty) (X6 : BufTy.Contents (Elt F) arg6.view.ty)
    (x2 : Vec F S4x65536 .i8) (T : Fin 2 → Fin 8 → Fin 16 → F .f32)
    (h3 : arg3.view.read (Elt F) X3 = x2) (h6 : arg6.view.read (Elt F) X6 = spread T)
include h3 h6

/-- The same, for a group loaded from the two buffers. -/
theorem group_loaded (k : Fin k0_t1_loop.trips) (g : Fin 4) (b : Fin 2) (n : Fin 1024) :
    group (arg3.view.readAt (Elt F) (inRect k g).toLoadRect X3)
    (fun b s => arg6.view.readAt (Elt F) (loRect b s).toLoadRect X6) (fun b s => arg6.view.readAt (Elt F) (hiRect b s).toLoadRect X6) (ix2 b n) = distOf x2 T (ix2 b (col k g n)) := by
  subst h3
  refine group_eq (arg3.view.read (Elt F) X3) T (col k g) _ _ _ (fun p m => ?_) (fun b s r l => ?_) (fun b s r l => ?_) b n
  · exact congrArg (arg3.view.read (Elt F) X3) (inRect_idx k g p m)
  · exact (congrFun h6 _).trans (congrArg (spread T) (loRect_idx b s r l))
  · exact (congrFun h6 _).trans (congrArg (spread T) (hiRect_idx b s r l))

/-- The same, for the store itself. -/
theorem piece_apply (k : Fin k0_t1_loop.trips) (g : Fin 4) (x : (outRect k g).shape.Idx) :
    (piece arg3 arg6 X3 X6 k g).2 x = distOf x2 T ((outRect k g).emb x) := by
  obtain ⟨b, n, rfl⟩ : ∃ (b : Fin 2) (n : Fin 1024), x = ix2 b n := ⟨x 0, x 1, eq_ix2 x⟩
  exact (group_loaded arg3 arg6 X3 X6 x2 T h3 h6 k g b n).trans (congrArg (distOf x2 T) (outRect_emb k g b n).symm)

section
variable (c : Dev nD) (i : grid0.Coords) (arg1 : Memref sig .tc .vmem S2x1024 .bf16) (harg1 : arg1.IsWhole) (arg2 : Memref sig .tc .vmem S8x16x128 .f32) (harg2 : arg2.IsWhole)
  (harg3 : arg3.IsWhole) (arg4 : Memref sig .tc .vmem S2x65536 .bf16) (harg4 : arg4.IsWhole) (arg5 : Memref sig .tc .vmem S2x8x16 .f32) (harg5 : arg5.IsWhole) (harg6 : arg6.IsWhole)

/-- Every store of the loop's first `n` trips is a group's. -/
theorem loop_apply (n : ℕ) (hn : n ≤ k0_t1_loop.trips) :
    ∀ p ∈ loopPieces c i arg1 harg1 arg2 harg2 arg3 harg3 arg4 harg4 arg5 harg5 arg6 harg6 X3 X6 n,
      ∀ x, p.2 x = distOf x2 T (p.1.emb x) := by
  induction n with
  | zero => exact fun p hp => absurd hp List.not_mem_nil
  | succ n ih =>
    intro p hp
    rw [loopPieces, pb_k0_t1_succ _ _ _ _ _ _ _ _ _ _ _ _ _ _ _ _ _ _ (⟨n, hn⟩ : Fin k0_t1_loop.trips), trip_pieces] at hp
    rcases List.mem_append.1 hp with hp | hp
    · simp only [List.mem_cons, List.not_mem_nil, or_false] at hp
      rcases hp with rfl | rfl | rfl | rfl <;> exact piece_apply arg3 arg6 X3 X6 x2 T h3 h6 _ _
    · exact ih (by omega) p hp

omit h3 h6 in
/-- The loop's first `n` trips store the block's first `4096 n` columns. -/
theorem loop_cover (n : ℕ) (hn : n ≤ k0_t1_loop.trips) (y : S2x65536.Idx) (hy : (y 1).val < 4096 * n) :
    ∃ p ∈ loopPieces c i arg1 harg1 arg2 harg2 arg3 harg3 arg4 harg4 arg5 harg5 arg6 harg6 X3 X6 n, y ∈ p.1.set := by
  induction n with
  | zero => omega
  | succ n ih =>
    rw [loopPieces, pb_k0_t1_succ _ _ _ _ _ _ _ _ _ _ _ _ _ _ _ _ _ _ (⟨n, hn⟩ : Fin k0_t1_loop.trips), trip_pieces]
    by_cases h : (y 1).val < 4096 * n
    · obtain ⟨p, hp, hm⟩ := ih (by omega) h
      exact ⟨p, List.mem_append_right _ hp, hm⟩
    · have hg : ∀ g : Fin 4, ((y 1).val - 4096 * n) / 1024 = g.val → y ∈ (outRect ⟨n, hn⟩ g).set := fun g hg => by
        have e : y = (outRect ⟨n, hn⟩ g).emb (ix2 (y 0) ⟨((y 1).val - 4096 * n) % 1024, by omega⟩) := by
          refine Eq.trans ((eq_ix2 y).trans (congrArg (ix2 (n0 := 2) (n1 := 65536) (y 0)) (Fin.ext ?_))) (outRect_emb _ _ _ _).symm
          show (y 1).val = 4096 * n + 1024 * g.val + ((y 1).val - 4096 * n) % 1024
          omega
        rw [e]
        exact LoadRect.idx_mem _ _
      have h4 : ((y 1).val - 4096 * n) / 1024 < 4 := by omega
      obtain ⟨g, hg'⟩ : ∃ g : Fin 4, ((y 1).val - 4096 * n) / 1024 = g.val := ⟨⟨_, h4⟩, rfl⟩
      refine ⟨piece arg3 arg6 X3 X6 ⟨n, hn⟩ g, List.mem_append_left _ ?_, hg g hg'⟩
      match g with
      | 0 => simp
      | 1 => simp
      | 2 => simp
      | 3 => simp

/-- After the loop the output's buffer reads as the block's distances. -/
theorem read_loop (f4 : BufTy.Contents (Elt F) arg4.view.ty) :
    arg4.view.read (Elt F) (arg4.view.writes (Elt F) f4
      (loopPieces c i arg1 harg1 arg2 harg2 arg3 harg3 arg4 harg4 arg5 harg5 arg6 harg6 X3 X6 k0_t1_loop.trips)) = distOf x2 T :=
  funext fun y => View.read_writes_apply_of_pieces _ _ (distOf x2 T) _
    (loop_apply arg3 arg6 X3 X6 x2 T h3 h6 c i arg1 harg1 arg2 harg2 harg3 arg4 harg4 arg5 harg5 harg6 _ le_rfl) y
    (loop_cover arg3 arg6 X3 X6 c i arg1 harg1 arg2 harg2 harg3 arg4 harg4 arg5 harg5 harg6 _ le_rfl y (by
      rw [trips_eq]; exact (y 1).isLt))
end
end

/-! ## The tables and the lookup rows -/

/-- Entry `k` of query `b`'s table for subspace `s`: the squared distance of the query's part to centroid `k`. -/
def entry (x0 : Vec F S2x1024 .bf16) (x1 : Vec F S8x16x128 .f32) (b : Fin 2) (s : Fin 8) (k : Fin 16) : F .f32 :=
  rows (View.ld x0 (qRect b s)) (View.ld x1 (eRect s)) (ix2 k 0)

/-- The lookup rows, all of them. -/
def lutOf (x0 : Vec F S2x1024 .bf16) (x1 : Vec F S8x16x128 .f32) : Vec F S2x8x16 .f32 :=
  fun y => lutRow (View.ld x0 (qRect (y 0) (y 1))) (View.ld x1 (eRect (y 1))) (ix3 0 0 (y 2))

/-- A table's row holds one value in every lane. -/
theorem rows_lane (q : Vec F S1x128 .bf16) (e : Vec F S1x16x128 .f32) (k : Fin 16) (l : Fin 128) :
    rows q e (ix2 k l) = rows q e (ix2 k 0) := by
  unfold rows
  pointwise

theorem rows_cast (q : Vec F S1x128 .bf16) (e : Vec F S1x16x128 .f32) (k : Fin 16) (l : Fin 128) :
    shapeCast S1x1x16x128 (rows q e) shapeCasts_S16x128_S1x1x16x128 (ix4 0 0 k l) = rows q e (ix2 k 0) := by
  pointwise
  exact rows_lane q e k l

theorem idx_unit4 (x : S1x1x16x128.Idx) : ∃ (k : Fin 16) (l : Fin 128), x = ix4 0 0 k l :=
  ⟨x 2, x 3, (eq_ix4 x).trans (congrArg₂ (fun a b : Fin 1 => ix4 a b (x 2 : Fin 16) (x 3 : Fin 128)) (Subsingleton.elim (α := Fin 1) (x 0) 0) (Subsingleton.elim (α := Fin 1) (x 1) 0))⟩

theorem idx_unit3 (x : S1x1x16.Idx) : ∃ k : Fin 16, x = ix3 0 0 k :=
  ⟨x 2, (eq_ix3 x).trans (congrArg₂ (fun a b : Fin 1 => ix3 a b (x 2 : Fin 16)) (Subsingleton.elim (α := Fin 1) (x 0) 0) (Subsingleton.elim (α := Fin 1) (x 1) 0))⟩

theorem lutOf_at (x0 : Vec F S2x1024 .bf16) (x1 : Vec F S8x16x128 .f32) (b : Fin 2) (s : Fin 8) (k : Fin 16) :
    lutOf x0 x1 (ix3 b s k) = lutRow (View.ld x0 (qRect b s)) (View.ld x1 (eRect s)) (ix3 0 0 k) := rfl

theorem tabRect_emb (b : Fin 2) (s : Fin 8) (k : Fin 16) (l : Fin 128) : (tabRect b s).emb (ix4 0 0 k l) = ix4 b s k l := by
  funext a
  refine Fin.ext ?_
  match a with
  | 0 => show b.val + 1 * 0 = b.val; omega
  | 1 => show s.val + 1 * 0 = s.val; omega
  | 2 => show 0 + 1 * k.val = k.val; omega
  | 3 => show 0 + 1 * l.val = l.val; omega

theorem lutRect_emb (b : Fin 2) (s : Fin 8) (k : Fin 16) : (lutRect b s).emb (ix3 0 0 k) = ix3 b s k := by
  funext a
  refine Fin.ext ?_
  match a with
  | 0 => show b.val + 1 * 0 = b.val; omega
  | 1 => show s.val + 1 * 0 = s.val; omega
  | 2 => show 0 + 1 * k.val = k.val; omega

section
variable (arg1 : Memref sig .tc .vmem S2x1024 .bf16) (arg2 : Memref sig .tc .vmem S8x16x128 .f32)
  (X1 : BufTy.Contents (Elt F) arg1.view.ty) (X2 : BufTy.Contents (Elt F) arg2.view.ty)
  (x0 : Vec F S2x1024 .bf16) (x1 : Vec F S8x16x128 .f32)
  (h1 : arg1.view.read (Elt F) X1 = x0) (h2 : arg2.view.read (Elt F) X2 = x1)
include h1 h2

theorem tabPiece_apply (b : Fin 2) (s : Fin 8) (x : (tabRect b s).shape.Idx) :
    (tabPiece arg1 arg2 X1 X2 b s).2 x = spread (entry x0 x1) ((tabRect b s).emb x) := by
  subst h1 h2
  obtain ⟨k, l, rfl⟩ : ∃ (k : Fin 16) (l : Fin 128), x = ix4 0 0 k l := idx_unit4 x
  exact (rows_cast _ _ k l).trans (congrArg (spread (entry _ _)) (tabRect_emb b s k l).symm)

theorem lutPiece_apply (b : Fin 2) (s : Fin 8) (x : (lutRect b s).shape.Idx) :
    (lutPiece arg1 arg2 X1 X2 b s).2 x = lutOf x0 x1 ((lutRect b s).emb x) := by
  subst h1 h2
  obtain ⟨k, rfl⟩ : ∃ (k : Fin 16), x = ix3 0 0 k := idx_unit3 x
  exact (lutOf_at _ _ b s k).symm.trans (congrArg (lutOf _ _) (lutRect_emb b s k).symm)

/-- After the tables' stores their buffer holds every table. -/
theorem read_tab (arg6 : Memref sig .tc .vmem S2x8x16x128 .f32) (f : BufTy.Contents (Elt F) arg6.view.ty) :
    arg6.view.read (Elt F) (arg6.view.writes (Elt F) f (tabPieces arg1 arg2 X1 X2)) = spread (entry x0 x1) :=
  funext fun y => View.read_writes_apply_of_pieces _ _ _ _ (by
    simp only [tabPieces, List.forall_mem_cons]
    refine ⟨?_, ?_, ?_, ?_, ?_, ?_, ?_, ?_, ?_, ?_, ?_, ?_, ?_, ?_, ?_, ?_, fun p hp => absurd hp List.not_mem_nil⟩ <;>
      exact tabPiece_apply arg1 arg2 X1 X2 x0 x1 h1 h2 _ _) y
    (View.cover_of_tiledL (tabPieces arg1 arg2 X1 X2) S1x1x16x128.size (by sl_kernel_rfl) y)

/-- After the lookup rows' stores their buffer holds every row. -/
theorem read_lut (arg5 : Memref sig .tc .vmem S2x8x16 .f32) (f : BufTy.Contents (Elt F) arg5.view.ty) :
    arg5.view.read (Elt F) (arg5.view.writes (Elt F) f (lutPieces arg1 arg2 X1 X2)) = lutOf x0 x1 :=
  funext fun y => View.read_writes_apply_of_pieces _ _ _ _ (by
    simp only [lutPieces, List.forall_mem_cons]
    refine ⟨?_, ?_, ?_, ?_, ?_, ?_, ?_, ?_, ?_, ?_, ?_, ?_, ?_, ?_, ?_, ?_, fun p hp => absurd hp List.not_mem_nil⟩ <;>
      exact lutPiece_apply arg1 arg2 X1 X2 x0 x1 h1 h2 _ _) y
    (View.cover_of_tiledL (lutPieces arg1 arg2 X1 X2) S1x1x16.size (by sl_kernel_rfl) y)
end

end Cert.KernelIdeal.Hand

end
-- ==== Proof.Steps.lean ====
/- One run of the body, its buffers' contents in closed form. -/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

attribute [local irreducible] firstRun

/-- At the first point the body leaves the tables in the scratch, their lookup rows in the rows' buffer, and the
    distances of the codes it finds. -/
theorem first_step (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : first i)
    (x0 : Vec F S2x1024 .bf16) (x1 : Vec F S8x16x128 .f32) (x2 : Vec F S4x65536 .i8) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (distOf x2 (entry x0 x1)) ∗ owns (c : Thread nD τ) arg5 fullShare (lutOf x0 x1) ∗ owns (c : Thread nD τ) arg6 fullShare (spread (entry x0 x1))) -∗ K ⟨⟩))
      ⊢ wp frame (wpE (defs₀ (F := F)) Variants.none c none) E (cc0_pq4_adc i arg1 harg1 arg2 harg2 arg3 harg3 arg4 harg4 arg5 harg5 arg6 harg6) K := by
  have htab : arg6.view.read (Elt F) (arg6.view.writes (Elt F) arg6.view.junk (firstRun c i arg1 harg1 arg2 harg2 arg3 harg3 arg4 harg4 arg5 harg5 arg6 harg6 hc0 x0 x1 x2).1) = spread (entry x0 x1) :=
    (congrArg (fun L => arg6.view.read (Elt F) (arg6.view.writes (Elt F) arg6.view.junk L)) (firstRun_tab c i arg1 harg1 arg2 harg2 arg3 harg3 arg4 harg4 arg5 harg5 arg6 harg6 hc0 x0 x1 x2)).trans
      (read_tab arg1 arg2 (harg1.unread x0) (harg2.unread x1) x0 x1 (harg1.read_unread x0) (harg2.read_unread x1) arg6 arg6.view.junk)
  have hlut : ∀ f5, arg5.view.read (Elt F) (arg5.view.writes (Elt F) f5 (firstRun c i arg1 harg1 arg2 harg2 arg3 harg3 arg4 harg4 arg5 harg5 arg6 harg6 hc0 x0 x1 x2).2.1) = lutOf x0 x1 := fun f5 =>
    (congrArg (fun L => arg5.view.read (Elt F) (arg5.view.writes (Elt F) f5 L)) (firstRun_lut c i arg1 harg1 arg2 harg2 arg3 harg3 arg4 harg4 arg5 harg5 arg6 harg6 hc0 x0 x1 x2)).trans
      (read_lut arg1 arg2 (harg1.unread x0) (harg2.unread x1) x0 x1 (harg1.read_unread x0) (harg2.read_unread x1) arg5 f5)
  iintro ⟨H0, H1, H2, H3, H4, HS, Hk⟩
  iapply ((firstRun c i arg1 harg1 arg2 harg2 arg3 harg3 arg4 harg4 arg5 harg5 arg6 harg6 hc0 x0 x1 x2).2.2 E K)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨HS, ⟨%f4, H3⟩⟩, ⟨%f5, H4⟩⟩
  iapply Hk
  isplitl [H0]; · iexact H0
  isplitl [H1]; · iexact H1
  isplitl [H2]; · iexact H2
  isplitl [H3]
  · unfold owns; iexists _; isplitr; swap; · iexact H3
    ipureintro
    exact read_loop arg3 arg6 _ _ x2 (entry x0 x1) (harg3.read_unread x2) htab c i arg1 harg1 arg2 harg2 harg3 arg4 harg4 arg5 harg5 harg6 f4
  isplitl [H4]
  · unfold owns; iexists _; isplitr; swap; · iexact H4
    ipureintro
    exact hlut f5
  unfold owns; iexists _; isplitr; swap; · iexact HS
  ipureintro
  exact htab

/-- At every later point it leaves the tables and the lookup rows as it finds them, and the distances of the codes. -/
theorem later_step (c : Dev nD) (i : grid0.Coords) (arg1 : Memref sig .tc .vmem S2x1024 .bf16) (harg1 : arg1.IsWhole) (arg2 : Memref sig .tc .vmem S8x16x128 .f32) (harg2 : arg2.IsWhole) (arg3 : Memref sig .tc .vmem S4x65536 .i8) (harg3 : arg3.IsWhole) (arg4 : Memref sig .tc .vmem S2x65536 .bf16) (harg4 : arg4.IsWhole) (arg5 : Memref sig .tc .vmem S2x8x16 .f32) (harg5 : arg5.IsWhole) (arg6 : Memref sig .tc .vmem S2x8x16x128 .f32) (harg6 : arg6.IsWhole) (hc0 : ¬first i)
    (x0 : Vec F S2x1024 .bf16) (x1 : Vec F S8x16x128 .f32) (x2 : Vec F S4x65536 .i8) (x4 : Vec F S2x8x16 .f32) (T : Fin 2 → Fin 8 → Fin 16 → F .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare (spread T)
        ∗ (iprop(owns (c : Thread nD τ) arg1 fullShare x0 ∗ owns (c : Thread nD τ) arg2 fullShare x1 ∗ owns (c : Thread nD τ) arg3 fullShare x2 ∗ owns (c : Thread nD τ) arg4 fullShare (distOf x2 (T)) ∗ owns (c : Thread nD τ) arg5 fullShare (x4) ∗ owns (c : Thread nD τ) arg6 fullShare (spread (T))) -∗ K ⟨⟩))
      ⊢ wp frame (wpE (defs₀ (F := F)) Variants.none c none) E (cc0_pq4_adc i arg1 harg1 arg2 harg2 arg3 harg3 arg4 harg4 arg5 harg5 arg6 harg6) K := by
  iintro ⟨H0, H1, H2, H3, H4, HS, Hk⟩
  iapply (later_run c i arg1 harg1 arg2 harg2 arg3 harg3 arg4 harg4 arg5 harg5 arg6 harg6 hc0 x0 x1 x2 x4 (spread T) E K)
  isplitl [H0]; · iexact H0
  isplitl [H1]; · iexact H1
  isplitl [H2]; · iexact H2
  isplitl [H3]; · iexact H3
  isplitl [H4]; · iexact H4
  isplitl [HS]; · iexact HS
  iintro ⟨H0, H1, H2, HS, ⟨%f4, H3⟩, H4⟩
  iapply Hk
  isplitl [H0]; · iexact H0
  isplitl [H1]; · iexact H1
  isplitl [H2]; · iexact H2
  isplitl [H3]
  · unfold owns; iexists _; isplitr; swap; · iexact H3
    ipureintro
    exact read_loop arg3 arg6 _ _ x2 T (harg3.read_unread x2) (harg6.read_unread (spread T)) c i arg1 harg1 arg2 harg2 harg3 arg4 harg4 arg5 harg5 harg6 f4
  isplitl [H4]; · iexact H4
  iexact HS

end Cert.KernelIdeal.Hand

end
-- ==== Proof.Tracked.lean ====
/- The kernel's run with its two results named: after every point the codes' staging buffer holds the point's columns,
   the distances' buffer their distances, the lookup rows' buffer the rows the first point stored, and the scratch the
   tables. -/
module

public import proofs.«01_k».proof.Proof.Steps
public import proofs.«01_k».proof.Proof.Gen.KernelIdeal.Launch
public import proofs.«01_k».proof.Proof.Gen.KernelIdeal.Points
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: the whole buffer of the tables. -/
abbrev scr : Memref sig .tc .vmem S2x8x16x128 .f32 := Memref.whole cc0_scratch0

/-- The region invariant: the scratch at some contents, and the generator register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The body builds the tables at the first point only. -/
theorem first_iff : ∀ t : Fin cfg0.N, first (grid0.coords t) ↔ t.val = 0 :=
  (fun t => by
    have ht : t.val < 31 := Nat.lt_of_lt_of_eq t.isLt N_0
    have e0 : (grid0.coords t 0).val = t.val / 1 % 31 := Pipeline.Grid.coords_val t 0 (by decide) rfl
    have h : first (grid0.coords t) ↔ t.val % 31 = 0 := by
      simp only [first, k0_cond1, e0]
      word_cmp
    rw [h]; omega
   : ∀ t : Fin grid0.N, first (grid0.coords t) ↔ t.val = 0)

/-- The first point. -/
abbrev t0 : Fin cfg0.N := ⟨0, lt_of_lt_of_eq (by decide : 0 < 31) N_0.symm⟩

/-! ## The proof data -/

/-- Window 2's staging buffer after the body: the block's columns inside the array, the zero word on the others (the
    last block overhangs the array, and nothing is read of the filler). -/
def codes8 (c : Dev nD) (t : Fin cfg0.N) : S4x65536.Idx → Elt F .i8 :=
  win0_2.fill (grid0.coords t) (fun _ => (0#8 : BitVec 8)) (iblk m c 2 t)

/-- The tables of the launch's queries and codebooks. -/
def tables (c : Dev nD) : Fin 2 → Fin 8 → Fin 16 → F .f32 := entry (iblk m c 0 t0) (iblk m c 1 t0)

/-- Their lookup rows. -/
def lutRows (c : Dev nD) : S2x8x16.Idx → Elt F .f32 := lutOf (iblk m c 0 t0) (iblk m c 1 t0)

/-- The invariant: before the first point the scratch at some contents, after it at the tables. -/
def PhiS (c : Dev nD) (n : ℕ) : sProp 𝕄 :=
  if n = 0 then Pipeline.ΦA spec0 c
  else iprop(owns (c : Thread nD τ) scr fullShare (spread (tables m c)) ∗ (∃ r, prngReg c r))

theorem PhiS_zero (c : Dev nD) : PhiS m c 0 = Pipeline.ΦA spec0 c := if_pos rfl
theorem PhiS_pos (c : Dev nD) (n : ℕ) (h : n ≠ 0) :
    PhiS m c n = iprop(owns (c : Thread nD τ) scr fullShare (spread (tables m c)) ∗ (∃ r, prngReg c r)) := if_neg h

/-- The arrays as the region finds them; each buffer's contents after the body; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codes8 m c t
    | ⟨3, _⟩ => distOf (codes8 m c t) (tables m c)
    | ⟨4, _⟩ => lutRows m c
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = codes8 m c t := by dsimp only [dats]
theorem after_3 (c : Dev nD) (t : Fin cfg0.N) : (dats m 0 c).after 3 t = distOf (codes8 m c t) (tables m c) := by dsimp only [dats]
theorem after_4 (c : Dev nD) (t : Fin cfg0.N) : (dats m 0 c).after 4 t = lutRows m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- Window 2 is fetched at every point: its block on the columns inside the array, anything on the others. -/
theorem before_2 (c : Dev nD) (t : Fin cfg0.N) (d) :
    (dats m 0 c).before 2 t d = win0_2.fill (grid0.coords t) d (iblk m c 2 t) := by
  rw [Dat.before_fetched _ _ _ (fetch0_2 t)]; unfold Dat.fetched Dat.blockOf iblk; rw [A_eq]

/-- Window 4 is idle after the first point. -/
theorem idle_4 (t : Fin cfg0.N) : cfg0.idle 4 (grid0.coords t) = decide (t.val ≠ 0) := by
  show (!(k0_cond1 (grid0.coords t) == 1#1)) = _
  by_cases h : t.val = 0
  · rw [show k0_cond1 (grid0.coords t) = 1#1 from (first_iff t).2 h]; simp [h]
  · have : ¬ k0_cond1 (grid0.coords t) = 1#1 := fun e => h ((first_iff t).1 e)
    simp [h, this]

theorem flush_4 (t : Fin cfg0.N) (h : t.val ≠ 30) : (cfg0.win 4).flush t = false := by
  have ht : t.val < 31 := Nat.lt_of_lt_of_eq t.isLt N_0
  refine Bool.eq_false_iff.2 fun e => ?_
  have := (flush0_4 t).1 e
  omega

/-- Its buffer holds nothing stored only before the first point. -/
theorem fresh_4 (n : ℕ) (hn : n < cfg0.N) (h0 : n ≠ 0) : cfg0.fresh 4 n = false := by
  induction n with
  | zero => exact absurd rfl h0
  | succ n ih =>
    have hN : n + 1 < 31 := Nat.lt_of_lt_of_eq hn N_0
    have hn' : n < cfg0.N := Nat.lt_of_succ_lt hn
    rw [Cfg.fresh_succ cfg0 4 n hn', flush_4 ⟨n, hn'⟩ (by show n ≠ 30; omega), Bool.false_or]
    by_cases h : n = 0
    · subst h
      rw [show cfg0.idle 4 (cfg0.grid.coords ⟨0, hn'⟩) = false from (idle_4 ⟨0, hn'⟩).trans (by simp), Bool.false_and]
    · rw [ih hn' h, Bool.and_false]

/-- After the first point the body finds window 4's buffer holding the lookup rows. -/
theorem before_4 (c : Dev nD) (t : Fin cfg0.N) (h : t.val ≠ 0) (d) : (dats m 0 c).before 4 t d = lutRows m c := by
  rw [Dat.before_out_traj (dats m 0 c) 4 rfl (fun _ _ => rfl) (fun t _ _ _ => by rw [after_4, after_4]) t.val t rfl d,
    fresh_4 t.val t.isLt h, if_neg Bool.false_ne_true, after_4]

/-! ## The columns outside the array do not matter -/

/-- On the columns inside the array the distances do not depend on what the codes' buffer holds on the others. -/
theorem cut_distOf (i : grid0.Coords) (d d' : S4x65536.Idx → Elt F .i8) (g : (win0_2.xblock i).Idx → Elt F .i8)
    (T : Fin 2 → Fin 8 → Fin 16 → F .f32) :
    win0_3.cut i (distOf (win0_2.fill i d g) T) = win0_3.cut i (distOf (win0_2.fill i d' g) T) := by
  funext j
  show distOf _ T (win0_3.xinj i j) = distOf _ T (win0_3.xinj i j)
  unfold distOf
  refine congrArg sumOf (funext fun s => congrArg (fun w => T _ s (nibble w s)) (congrArg wordOf (funext fun p => ?_)))
  have hm : win0_2.moved i (ix2 p ((win0_3.xinj i j) 1)) = true := by
    rw [Window.moved_iff]
    intro a
    match a with
    | 0 => exact p.isLt
    | 1 => exact (j 1).isLt
  unfold Window.fill
  rw [dif_pos hm, dif_pos hm]

/-! ## The body obligation -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is handed at point `t`, window by window, and what it hands back. -/
def bodyPre (c : Dev nD) (t : Fin cfg0.N) : sProp 𝕄 :=
  iprop(PhiS m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop(PhiS m c (t.val + 1) ∗ (dats m 0 c).owesAt () t.castSucc
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (dats m 0 c).leaves 4 t)

/-- Window 4's buffer at the lookup rows is what the obligation asks of it, at every point. -/
theorem leaves_4 (c : Dev nD) (t : Fin cfg0.N) :
    owns (c : Thread nD τ) (st0_4 t) fullShare (lutRows m c) ⊢ ((dats m 0 c).leaves 4 t : sProp 𝕄) := by
  refine BIBase.Entails.trans ?_ ((dats m 0 c).leaves_intro 4 t)
  unfold Dat.leavesExact
  rw [idle_4 t]
  by_cases h : t.val = 0
  · simp only [h, ne_eq, not_true_eq_false, decide_false, after_4]
    exact .rfl
  · simp only [h, ne_eq, not_false_eq_true, decide_true]
    cases (cfg0.win 4).flush t
    · simp only [before_4 m c t h]
      iintro H; iexists lutRows m c; iexact H
    · simp only [after_4]
      exact .rfl

/-- Window 3's buffer at the distances of whatever the codes' buffer holds is what the obligation asks of it. -/
theorem leaves_3 (c : Dev nD) (t : Fin cfg0.N) (d : S4x65536.Idx → Elt F .i8) :
    owns (c : Thread nD τ) (st0_3 t) fullShare (distOf (win0_2.fill (grid0.coords t) d (iblk m c 2 t)) (tables m c))
      ⊢ (∃ d, owns (c : Thread nD τ) (st0_3 t) fullShare (win0_3.fill (grid0.coords t) d (win0_3.cut (grid0.coords t) (distOf (codes8 m c t) (tables m c)))) : sProp 𝕄) := by
  iintro H
  iexists distOf (win0_2.fill (grid0.coords t) d (iblk m c 2 t)) (tables m c)
  rw [Window.fill_congr_cut win0_3 (grid0.coords t) (Y := distOf (codes8 m c t) (tables m c)) (cut_distOf (grid0.coords t) d (fun _ => (0#8 : BitVec 8)) (iblk m c 2 t) (tables m c))]
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3]
  rw [PhiS_pos m c _ (Nat.succ_ne_zero t.val)]
  by_cases h : t.val = 0
  · obtain rfl : t = t0 := Fin.ext h
    rw [PhiS_zero, PhiA_eq]
    iintro ⟨⟨HS, Hg⟩, Ho, ⟨%d0, H0⟩, ⟨%d1, H1⟩, ⟨%d2, H2⟩, ⟨%d3, H3⟩, ⟨%d4, H4⟩⟩
    iapply (first_step c (grid0.coords t0) _ _ _ _ _ _ _ _ _ _ _ _ ((first_iff t0).2 rfl) (iblk m c 0 t0) (iblk m c 1 t0) (win0_2.fill (grid0.coords t0) d2 (iblk m c 2 t0)) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]
    · iexists d2; unfold codes8; rw [Window.cut_fill]; iexact H2
    isplitl [H3]
    · iapply (leaves_3 m c t0 d2); iexact H3
    iapply (leaves_4 m c t0); iexact H4
  · rw [PhiS_pos m c _ h]
    simp only [before_4 m c t h]
    iintro ⟨⟨HS, Hg⟩, Ho, ⟨%d0, H0⟩, ⟨%d1, H1⟩, ⟨%d2, H2⟩, ⟨%d3, H3⟩, ⟨%d4, H4⟩⟩
    iapply (later_step c (grid0.coords t) _ _ _ _ _ _ _ _ _ _ _ _ (fun e => h ((first_iff t).1 e)) (iblk m c 0 t) (iblk m c 1 t) (win0_2.fill (grid0.coords t) d2 (iblk m c 2 t)) (lutRows m c) (tables m c) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]
    · iexists d2; unfold codes8; rw [Window.cut_fill]; iexact H2
    isplitl [H3]
    · iapply (leaves_3 m c t d2); iexact H3
    iapply (leaves_4 m c t); iexact H4

/-- The library's body obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_eq (c : Dev nD) (t : Fin (cfg0.N + 1)) : (dats m 0 c).Φ t = PhiS m c t.val := by dsimp only [dats]

theorem hin (c : Dev nD) : Pipeline.ΦA spec0 c ⊢ (dats (F := F) m 0 c).Φ 0 := by
  rw [Phi_eq, show ((0 : Fin (cfg0.N + 1)) : ℕ) = 0 from rfl, PhiS_zero]

theorem hout (c : Dev nD) : (dats (F := F) m 0 c).Φ (Fin.last cfg0.N) ⊢ Pipeline.ΦA spec0 c := by
  rw [Phi_eq, PhiS_pos m c _ (by rw [Fin.val_last]; have : cfg0.N = 31 := N_0; omega), PhiA_eq]
  iintro ⟨HS, Hg⟩
  isplitl [HS]
  · iexists _; iexact HS
  iexact Hg

set_option backward.isDefEq.respectTransparency.types false in
/-- Every weakly fair run of @main ends with every window's array at what the points' stores leave of it, every other
    unscoped buffer as the region found it, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the argument arrays end as launched and every counter at zero. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0) :=
  (θ_run defs _ _).mono (fun _ ⟨h, hs⟩ => ⟨fun c => ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩, hs⟩) (run_main m ρ)

end Cert.KernelIdeal.Hand

end
-- ==== Proof.Arrays.lean ====
/- The kernel's two result arrays after the run, index by index, from the launch contents of its arguments. -/
module

public import proofs.«01_k».proof.Proof.Tracked
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ)

/-- The launch contents of the queries, the codebooks and the codes on one device. -/
abbrev queries (c : Dev nD) : Vec F S2x1024 .bf16 := m ((c : Thread nD τ).loc main_arg0)
abbrev books (c : Dev nD) : Vec F S8x16x128 .f32 := m ((c : Thread nD τ).loc main_arg1)
abbrev codes (c : Dev nD) : Vec F S2000000x4 .i8 := m ((c : Thread nD τ).loc main_arg2)

/-- The blocks' places: the queries', codebooks' and lookup rows' blocks are the arrays; the codes' and distances' block
    at point `t` is the `t`-th run of columns. -/
theorem index_0 : ∀ t : Fin cfg0.N, win0_0.index t = ![0, 0] := (by decide +kernel : ∀ t : Fin grid0.N, win0_0.index t = ![0, 0])
theorem index_1 : ∀ t : Fin cfg0.N, win0_1.index t = ![0, 0, 0] := (by decide +kernel : ∀ t : Fin grid0.N, win0_1.index t = ![0, 0, 0])
theorem index_2 : ∀ t : Fin cfg0.N, win0_2.index t = ![0, t.val] := (by decide +kernel : ∀ t : Fin grid0.N, win0_2.index t = ![0, t.val])
theorem index_3 : ∀ t : Fin cfg0.N, win0_3.index t = ![0, t.val] := (by decide +kernel : ∀ t : Fin grid0.N, win0_3.index t = ![0, t.val])
theorem index_4 : ∀ t : Fin cfg0.N, win0_4.index t = ![0, 0, 0] := (by decide +kernel : ∀ t : Fin grid0.N, win0_4.index t = ![0, 0, 0])

/-- The first point's block of the queries is the whole array, and so for the codebooks. -/
theorem iblk_0 (c : Dev nD) : iblk m c 0 t0 = queries m c := by
  funext y
  refine (?_ : _ = V m c main_arg0 y).trans (congrFun (V_main_arg0 m c) y)
  blk_simp [iblk]
  refine congrArg (V m c main_arg0) ?_
  blk_ext [index_0]
theorem iblk_1 (c : Dev nD) : iblk m c 1 t0 = books m c := by
  funext y
  refine (?_ : _ = V m c main_arg1 y).trans (congrFun (V_main_arg1 m c) y)
  blk_simp [iblk]
  refine congrArg (V m c main_arg1) ?_
  blk_ext [index_1]

/-- The region finds the codes transposed. -/
theorem V_codes (c : Dev nD) (p : Fin 4) (n : Fin 2000000) : V m c main_v0 (ix2 p n) = codes m c (ix2 n p) := by
  refine (?_ : _ = transpose S4x2000000 [1, 0] (codes m c) transposes_S2000000x4_S4x2000000_1_0 (ix2 p n)).trans ?_
  · rfl
  · pointwise

/-- The distances: at query `b` and row `n` the sum of the eight table entries that the nibbles of the row's word pick. -/
def distArr (c : Dev nD) : Vec F S2x2000000 .bf16 := fun i =>
  sumOf fun s => tables m c (i 0) s (nibble (wordOf fun p => codes m c (ix2 (i 1) p)) s)

/-- A column of the block at point `t` that lies inside the array holds the codes of its row. -/
theorem codes8_apply (c : Dev nD) (t : Fin cfg0.N) (p : Fin 4) (y : (win0_3.xblock (grid0.coords t)).Idx) (n : Fin 2000000)
    (hn : n.val = t.val * 65536 + (y 1).val) :
    codes8 m c t (ix2 p (win0_3.xinj (grid0.coords t) y 1)) = codes m c (ix2 n p) := by
  have hm : win0_2.moved (grid0.coords t) (ix2 p (win0_3.xinj (grid0.coords t) y 1)) = true := by
    rw [Window.moved_iff]
    intro a
    match a with
    | 0 => exact p.isLt
    | 1 => exact (y 1).isLt
  unfold codes8 Window.fill
  rw [dif_pos hm]
  refine Eq.trans ?_ (V_codes m c p n)
  blk_simp [iblk]
  refine congrArg (V m c main_v0) ?_
  blk_ext [index_2]

/-- The distances' array after the run. -/
theorem final_dist (c : Dev nD) : (dats m 0 c).arrAt 3 cfg0.N = distArr m c := by
  refine (dats m 0 c).arrAt_eq_of_covers 3 _ (by decide +kernel) fun t hf y => ?_
  have h0 : (win0_3.xinj (grid0.coords t) y 0 : Fin 2) = ((cfg0.win 3).blk t).view.emb y 0 := by
    refine Fin.ext ?_
    blk_simp [index_3]
  have h1 : (((cfg0.win 3).blk t).view.emb y 1 : Fin 2000000).val = t.val * 65536 + (y 1).val := by
    blk_simp [index_3]
  blk_simp
  rw [after_3]
  unfold distArr distOf
  refine congrArg sumOf (funext fun s => congrArg₂ (fun b w => tables m c b s (nibble w s)) h0 (congrArg wordOf (funext fun p => ?_)))
  exact codes8_apply m c t p y _ h1

/-- The lookup rows' array after the run. -/
theorem final_lut (c : Dev nD) : (dats m 0 c).arrAt 4 cfg0.N = lutRows m c := by
  refine (dats m 0 c).arrAt_eq_of_covers 4 _ (by decide +kernel) fun t hf y => ?_
  blk_simp
  rw [after_4]
  refine congrArg (lutRows m c) ?_
  blk_ext [index_4]

end Cert.KernelIdeal.Hand

end
-- ==== Proof.Table.lean ====
/- The kernel's tables and lookup rows over the extended reals: squared distances as sums over the 128 coordinates. -/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The squared distance of query `b`'s part `s` to centroid `k` of subspace `s`. -/
def sqDist (x : (⟨2, ![2, 1024]⟩ : Shape).Idx → EReal) (cb : (⟨3, ![8, 16, 128]⟩ : Shape).Idx → EReal) (b : Fin 2) (s : Fin 8) (k : Fin 16) : EReal :=
  ∑ d : Fin 128, (x (ix2 b ⟨128 * s.val + d.val, by omega⟩) - cb (ix3 s k d)) * (x (ix2 b ⟨128 * s.val + d.val, by omega⟩) - cb (ix3 s k d))

/-- A table entry is the squared distance. -/
theorem entry_apply (x0 : Vec Ideal S2x1024 .bf16) (x1 : Vec Ideal S8x16x128 .f32) (b : Fin 2) (s : Fin 8) (k : Fin 16) :
    entry x0 x1 b s k = sqDist x0 x1 b s k := by
  unfold entry rows sqDist
  pointwise

/-- A lookup row's element `k` is the table's row `k`: the mask leaves one term of the column's sum. -/
theorem lutRow_apply (q : Vec Ideal S1x128 .bf16) (e : Vec Ideal S1x16x128 .f32) (k : Fin 16) :
    lutRow q e (ix3 0 0 k) = rows q e (ix2 k 0) := by
  unfold lutRow
  pointwise
  rw [Finset.sum_eq_single k]
  · rw [show IntOp.cmpi .eq (BitVec.ofNat 32 k.val) (BitVec.ofNat 32 k.val) = 1#1 by
      rw [WordCmp.cmpi_eq_eq_toNat]; simp]
    exact rows_lane q e k _
  · intro r _ hr
    rw [show IntOp.cmpi .eq (BitVec.ofNat 32 r.val) (BitVec.ofNat 32 k.val) = 0#1 by
      rw [WordCmp.cmpi_eq_eq_toNat, BitVec.toNat_ofNat, BitVec.toNat_ofNat, Nat.mod_eq_of_lt (by omega), Nat.mod_eq_of_lt (by omega)]
      simp [Fin.val_ne_of_ne hr]]
    rfl
  · exact fun h => absurd (Finset.mem_univ k) h

/-- So the lookup rows are the tables. -/
theorem lutOf_apply (x0 : Vec Ideal S2x1024 .bf16) (x1 : Vec Ideal S8x16x128 .f32) (b : Fin 2) (s : Fin 8) (k : Fin 16) :
    lutOf x0 x1 (ix3 b s k) = entry x0 x1 b s k :=
  (lutOf_at x0 x1 b s k).trans (lutRow_apply _ _ k)

end Cert.KernelIdeal.Hand

end
-- ==== Proof.Reference.lean ====
/- What the reference computes, index by index: the table entries, the word of a row of codes, and the eight table reads
   of a distance. -/
module

public import proofs.«01_k».proof.Proof.Table
public import proofs.«01_k».proof.Proof.Gen.ReferenceIdeal.Run
public import Idealize.ShloMosaic.Lib.Pointwise
public import Idealize.ShloMosaic.Lib.BitcastConvert
public import Idealize.ShloMosaic.Lib.BitcastFour

@[expose] public section

set_option maxRecDepth 16384

noncomputable section

namespace Cert.ReferenceIdeal.Hand

open Cert.ReferenceIdeal Cert.ReferenceIdeal.Gen Cert.ReferenceIdeal.Value
open Cert.KernelIdeal.Hand (wordOf nibble sumOf sqDist)
open Idealize.ShloMosaic Idealize.ShloMosaic.TcCoe Idealize.ShloMosaic.Tactic

/-! ## Bits of a word -/

/-- The reference's test of the bit that `k` names. -/
abbrev bit (w k : BitVec 32) : BitVec 1 := IntOp.cmpi .eq (IntOp.andi (IntOp.shrui .host w k) 1#32) 1#32

/-- It is the bit. -/
theorem bit_toNat (w k : BitVec 32) (hk : k.toNat < 32) : (bit w k).toNat = w.toNat / 2 ^ k.toNat % 2 := by
  have h1 : (IntOp.andi (IntOp.shrui .host w k) 1#32).toNat = w.toNat / 2 ^ k.toNat % 2 := by
    rw [IntOp.andi, BitVec.toNat_and, show (1#32 : BitVec 32).toNat = 1 from rfl, Nat.and_one_is_mod]
    simp [IntOp.shrui, hk, Nat.shiftRight_eq_div_pow]
  have h2 := Nat.mod_two_eq_zero_or_one (w.toNat / 2 ^ k.toNat)
  rw [bit, WordCmp.cmpi_eq_eq_toNat, h1, show (1#32 : BitVec 32).toNat = 1 from rfl]
  rcases h2 with h | h <;> simp [h]

/-- Sixteen entries selected by four bits, the highest first. -/
def select16 {α : Type} (b3 b2 b1 b0 : BitVec 1) (v : Fin 16 → α) : α :=
  Scalar.select b3
    (Scalar.select b2
      (Scalar.select b1 (Scalar.select b0 (v 15) (v 14)) (Scalar.select b0 (v 13) (v 12)))
      (Scalar.select b1 (Scalar.select b0 (v 11) (v 10)) (Scalar.select b0 (v 9) (v 8))))
    (Scalar.select b2
      (Scalar.select b1 (Scalar.select b0 (v 7) (v 6)) (Scalar.select b0 (v 5) (v 4)))
      (Scalar.select b1 (Scalar.select b0 (v 3) (v 2)) (Scalar.select b0 (v 1) (v 0))))

/-- The entry selected is the one that the four bits number. -/
theorem select16_eq {α : Type} (b3 b2 b1 b0 : BitVec 1) (v : Fin 16 → α) (k : Fin 16)
    (hk : k.val = 8 * b3.toNat + 4 * b2.toNat + 2 * b1.toNat + b0.toNat) : select16 b3 b2 b1 b0 v = v k := by
  have hb : ∀ b : BitVec 1, b = 0#1 ∨ b = 1#1 := by decide
  rcases hb b3 with rfl | rfl <;> rcases hb b2 with rfl | rfl <;> rcases hb b1 with rfl | rfl <;> rcases hb b0 with rfl | rfl <;>
    exact congrArg v (Fin.ext hk.symm)

/-- The entry selected by bits `4 s … 4 s + 3` of a word is the one at its nibble `s`. -/
theorem select16_nibble {α : Type} (w k3 k2 k1 k0 : BitVec 32) (s : Fin 8) (v : Fin 16 → α)
    (h3 : k3.toNat = 4 * s.val + 3) (h2 : k2.toNat = 4 * s.val + 2) (h1 : k1.toNat = 4 * s.val + 1) (h0 : k0.toNat = 4 * s.val) :
    select16 (bit w k3) (bit w k2) (bit w k1) (bit w k0) v = v (nibble w s) := by
  refine select16_eq _ _ _ _ v _ ?_
  have hs := s.isLt
  rw [bit_toNat w k3 (by omega), bit_toNat w k2 (by omega), bit_toNat w k1 (by omega), bit_toNat w k0 (by omega), h3, h2, h1, h0,
    pow_add, pow_add, pow_add, ← Nat.div_div_eq_div_mul, ← Nat.div_div_eq_div_mul, ← Nat.div_div_eq_div_mul]
  show w.toNat / 2 ^ (4 * s.val) % 16 = _
  generalize w.toNat / 2 ^ (4 * s.val) = q
  omega

/-! ## The reference's values -/

/-- The word of a row of codes: its four bytes, the first lowest. -/
theorem word_apply (V0 : Valuation τ sig (Elt Ideal)) (n : Fin 2000000) :
    res_main_v9 V0 (ix1 n) = wordOf fun p => (V0 (Proc.devRef .tc main_arg2) : Vec Ideal S2000000x4 .i8) (ix2 n p) := by
  refine BitVec.eq_of_getLsbD_eq fun q hq => ?_
  unfold res_main_v9 wordOf
  rw [Host.bitcastConvertWiden_getLsbD _ _ _ _ _ q hq]
  refine Eq.trans ?_ (four_bytes_getLsbD (fun p => (V0 (Proc.devRef .tc main_arg2) : Vec Ideal S2000000x4 .i8) (ix2 n p)) q hq).symm
  refine congrArg (fun x : BitVec 8 => x.getLsbD (q % 8)) (congrArg (V0 (Proc.devRef .tc main_arg2) : Vec Ideal S2000000x4 .i8) ?_)
  funext a
  match a with
  | 0 => rfl
  | 1 => rfl

/-- A table entry: the squared distance of a query's part to a centroid. -/
theorem table_apply (V0 : Valuation τ sig (Elt Ideal)) (b : Fin 2) (s : Fin 8) (k : Fin 16) :
    res_main_v8 V0 (ix3 b s k) = sqDist (V0 (Proc.devRef .tc main_arg0)) (V0 (Proc.devRef .tc main_arg1)) b s k := by
  have h6 : ∀ d : Fin 128, (res_main_v6 V0 (ix4 b s k d) : EReal)
      = HSub.hSub (α := EReal) (β := EReal) (V0 (Proc.devRef .tc main_arg0) (ix2 b ⟨128 * s.val + d.val, by omega⟩))
        (V0 (Proc.devRef .tc main_arg1) (ix3 s k d)) := fun d => by
    unfold res_main_v6
    pointwise
    simp only [Nat.mul_comm s.val 128]
  unfold res_main_v8 sqDist
  pointwise
  exact Finset.sum_congr (M := EReal) rfl fun d _ => congrArg₂ (fun a b : EReal => a * b) (h6 d) (h6 d)

/-- The table read of each subspace: the entry at the word's nibble. -/
theorem read_0 (V0 : Valuation τ sig (Elt Ideal)) (b : Fin 2) (n : Fin 2000000) :
    res_main_v100 V0 (ix2 b n) = res_main_v8 V0 (ix3 b 0 (nibble (res_main_v9 V0 (ix1 n)) 0)) := by
  unfold res_main_v100 res_main_v90 res_main_v79 res_main_v64
  pointwise
  exact select16_nibble _ 3#32 2#32 1#32 0#32 0 (fun k => res_main_v8 V0 (ix3 b 0 k)) rfl rfl rfl rfl
theorem read_1 (V0 : Valuation τ sig (Elt Ideal)) (b : Fin 2) (n : Fin 2000000) :
    res_main_v467 V0 (ix2 b n) = res_main_v8 V0 (ix3 b 1 (nibble (res_main_v9 V0 (ix1 n)) 1)) := by
  unfold res_main_v467 res_main_v457 res_main_v446 res_main_v431
  pointwise
  exact select16_nibble _ 7#32 6#32 5#32 4#32 1 (fun k => res_main_v8 V0 (ix3 b 1 k)) rfl rfl rfl rfl
theorem read_2 (V0 : Valuation τ sig (Elt Ideal)) (b : Fin 2) (n : Fin 2000000) :
    res_main_v191 V0 (ix2 b n) = res_main_v8 V0 (ix3 b 2 (nibble (res_main_v9 V0 (ix1 n)) 2)) := by
  unfold res_main_v191 res_main_v181 res_main_v170 res_main_v155
  pointwise
  exact select16_nibble _ 11#32 10#32 9#32 8#32 2 (fun k => res_main_v8 V0 (ix3 b 2 k)) rfl rfl rfl rfl
theorem read_3 (V0 : Valuation τ sig (Elt Ideal)) (b : Fin 2) (n : Fin 2000000) :
    res_main_v558 V0 (ix2 b n) = res_main_v8 V0 (ix3 b 3 (nibble (res_main_v9 V0 (ix1 n)) 3)) := by
  unfold res_main_v558 res_main_v548 res_main_v537 res_main_v522
  pointwise
  exact select16_nibble _ 15#32 14#32 13#32 12#32 3 (fun k => res_main_v8 V0 (ix3 b 3 k)) rfl rfl rfl rfl
theorem read_4 (V0 : Valuation τ sig (Elt Ideal)) (b : Fin 2) (n : Fin 2000000) :
    res_main_v283 V0 (ix2 b n) = res_main_v8 V0 (ix3 b 4 (nibble (res_main_v9 V0 (ix1 n)) 4)) := by
  unfold res_main_v283 res_main_v273 res_main_v262 res_main_v247
  pointwise
  exact select16_nibble _ 19#32 18#32 17#32 16#32 4 (fun k => res_main_v8 V0 (ix3 b 4 k)) rfl rfl rfl rfl
theorem read_5 (V0 : Valuation τ sig (Elt Ideal)) (b : Fin 2) (n : Fin 2000000) :
    res_main_v650 V0 (ix2 b n) = res_main_v8 V0 (ix3 b 5 (nibble (res_main_v9 V0 (ix1 n)) 5)) := by
  unfold res_main_v650 res_main_v640 res_main_v629 res_main_v614
  pointwise
  exact select16_nibble _ 23#32 22#32 21#32 20#32 5 (fun k => res_main_v8 V0 (ix3 b 5 k)) rfl rfl rfl rfl
theorem read_6 (V0 : Valuation τ sig (Elt Ideal)) (b : Fin 2) (n : Fin 2000000) :
    res_main_v375 V0 (ix2 b n) = res_main_v8 V0 (ix3 b 6 (nibble (res_main_v9 V0 (ix1 n)) 6)) := by
  unfold res_main_v375 res_main_v365 res_main_v354 res_main_v339
  pointwise
  exact select16_nibble _ 27#32 26#32 25#32 24#32 6 (fun k => res_main_v8 V0 (ix3 b 6 k)) rfl rfl rfl rfl
theorem read_7 (V0 : Valuation τ sig (Elt Ideal)) (b : Fin 2) (n : Fin 2000000) :
    res_main_v742 V0 (ix2 b n) = res_main_v8 V0 (ix3 b 7 (nibble (res_main_v9 V0 (ix1 n)) 7)) := by
  unfold res_main_v742 res_main_v732 res_main_v721 res_main_v706
  pointwise
  exact select16_nibble _ 31#32 30#32 29#32 28#32 7 (fun k => res_main_v8 V0 (ix3 b 7 k)) rfl rfl rfl rfl

/-- A distance: the eight table reads summed in the reference's order and rounded. -/
theorem dist_apply (V0 : Valuation τ sig (Elt Ideal)) (b : Fin 2) (n : Fin 2000000) :
    truncf .bf16 (addf (addf (addf (addf (res_main_v100 V0) (res_main_v191 V0)) (res_main_v283 V0)) (res_main_v375 V0)) (addf (addf (addf (res_main_v467 V0) (res_main_v558 V0)) (res_main_v650 V0)) (res_main_v742 V0))) bitsLt_bf16_f32 (ix2 b n)
      = sumOf (F := Ideal) fun s => res_main_v8 V0 (ix3 b s (nibble (res_main_v9 V0 (ix1 n)) s)) := by
  show FloatOps.truncf .bf16 bitsLt_bf16_f32 (FloatOps.addf
    (FloatOps.addf (FloatOps.addf (FloatOps.addf (res_main_v100 V0 (ix2 b n)) (res_main_v191 V0 (ix2 b n))) (res_main_v283 V0 (ix2 b n))) (res_main_v375 V0 (ix2 b n)))
    (FloatOps.addf (FloatOps.addf (FloatOps.addf (res_main_v467 V0 (ix2 b n)) (res_main_v558 V0 (ix2 b n))) (res_main_v650 V0 (ix2 b n))) (res_main_v742 V0 (ix2 b n)))) = _
  rw [read_0, read_1, read_2, read_3, read_4, read_5, read_6, read_7]
  rfl

end Cert.ReferenceIdeal.Hand

end
-- ==== Proof.Values.lean ====
/- The equation: the reference's two results, index by index, are what the kernel leaves in its two result arrays. -/
module

public import proofs.«01_k».proof.Proof.Arrays
public import proofs.«01_k».proof.Proof.Table
public import proofs.«01_k».proof.Proof.Reference

@[expose] public section

set_option maxRecDepth 16384

noncomputable section

namespace Cert.Hand

open Cert.KernelIdeal.Hand Cert.ReferenceIdeal.Hand Cert.ReferenceIdeal.Value
open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)
  (h0 : V0 (Proc.devRef .tc Cert.ReferenceIdeal.main_arg0) = queries m c)
  (h1 : V0 (Proc.devRef .tc Cert.ReferenceIdeal.main_arg1) = books m c)
  (h2 : V0 (Proc.devRef .tc Cert.ReferenceIdeal.main_arg2) = codes m c)
include h0 h1

/-- A table entry of the reference is the kernel's. -/
theorem table_eq (b : Fin 2) (s : Fin 8) (k : Fin 16) : res_main_v8 V0 (ix3 b s k) = tables m c b s k :=
  (table_apply V0 b s k).trans ((congrArg₂ (fun x y => sqDist x y b s k) h0 h1).trans
    ((congrArg₂ (fun x y => entry x y b s k) (iblk_0 m c) (iblk_1 m c)).trans (entry_apply _ _ b s k)).symm)

/-- The reference's lookup rows are the kernel's. -/
theorem lut_eq : res_main_v8 V0 = lutRows m c := by
  funext y
  obtain ⟨b, s, k, rfl⟩ : ∃ (b : Fin 2) (s : Fin 8) (k : Fin 16), y = ix3 b s k := ⟨y 0, y 1, y 2, eq_ix3 y⟩
  exact (table_eq m V0 c h0 h1 b s k).trans (lutOf_apply _ _ b s k).symm

include h2
/-- The reference's distances are the kernel's. -/
theorem dist_eq : truncf .bf16 (addf (addf (addf (addf (res_main_v100 V0) (res_main_v191 V0)) (res_main_v283 V0)) (res_main_v375 V0)) (addf (addf (addf (res_main_v467 V0) (res_main_v558 V0)) (res_main_v650 V0)) (res_main_v742 V0))) Cert.ReferenceIdeal.Facts₀.bitsLt_bf16_f32
    = distArr m c := by
  funext y
  obtain ⟨b, n, rfl⟩ : ∃ (b : Fin 2) (n : Fin 2000000), y = ix2 b n := ⟨y 0, y 1, eq_ix2 y⟩
  refine (dist_apply V0 b n).trans ?_
  refine congrArg (sumOf (F := Ideal)) (funext fun s => (table_eq m V0 c h0 h1 b s _).trans ?_)
  refine congrArg (fun w => tables m c b s (nibble w s)) ((word_apply V0 n).trans ?_)
  exact congrArg wordOf (funext fun p => congrFun h2 (ix2 n p))

end Cert.Hand

end
-- ==== Proof.lean ====
/- The certificate: the frames of the kernel, of its idealized print and of the reference; the idealization's rewrites; and
   the equality of the kernel's and the reference's two results over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameBits
public import proofs.«01_k».proof.Proof.Values
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Both programs end with the distances and the lookup rows that `distArr` and `lutRows` spell, arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.distArr m c, fun c => Cert.KernelIdeal.Hand.lutRows m c, ?_, ?_⟩
  · refine (θ_run _ _ _).mono (fun r h c => ?_) (Cert.KernelIdeal.Hand.run_main m g)
    exact ⟨((h.1 c).1 3).trans (Cert.KernelIdeal.Hand.final_dist m c), ((h.1 c).1 4).trans (Cert.KernelIdeal.Hand.final_lut m c),
      ((h.1 c).1 0).trans (((Cert.KernelIdeal.Hand.dats m 0 c).arrAt_in 0 rfl _).trans ((Cert.KernelIdeal.Hand.A_eq m c 0).trans (Cert.KernelIdeal.Gen.V_main_arg0 m c))),
      ((h.1 c).1 1).trans (((Cert.KernelIdeal.Hand.dats m 0 c).arrAt_in 1 rfl _).trans ((Cert.KernelIdeal.Hand.A_eq m c 1).trans (Cert.KernelIdeal.Gen.V_main_arg1 m c))),
      ((h.1 c).2 Cert.KernelIdeal.main_arg2 (Pipeline.mem_restRefs_of Cert.KernelIdeal.main_arg2 (by decide) (by decide))).trans (Cert.KernelIdeal.Gen.V_main_arg2 m c)⟩
  · refine (θ_run _ _ _).mono (fun r h c => ?_) (Cert.ReferenceIdeal.Value.run m' g')
    have e0 := (hargs c).1
    have e1 := (hargs c).2.1
    have e2 := (hargs c).2.2
    exact ⟨(h c).1.trans (Cert.Hand.dist_eq m (StableHlo.launchContents m' c) c e0 e1 e2),
      (h c).2.1.trans (Cert.Hand.lut_eq m (StableHlo.launchContents m' c) c e0 e1), (h c).2.2⟩

/-- The reference program has no semaphore, so its frame is its run. -/
theorem quiescent_ReferenceIdeal : Cert.quiescent_ReferenceIdeal (hReferenceIdeal := Cert.ReferenceIdeal.Gen.facts) :=
  fun m g _ => (θ_run _ _ _).mono (fun r h => ⟨fun c => (h c).2.2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  fun m g _ => Cert.Kernel.Hand.quiescent m g,
  fun m g _ => Cert.KernelIdeal.Hand.quiescent m g,
  quiescent_ReferenceIdeal,
  ⟨IdealRules.bf16_pair.packStatement _, IdealRules.bf16_pair.statement _ _⟩,
  algebraic⟩

end Cert.Proof

end
